-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_grid_edges [hPre_grid_edges : Cert.Pre_grid_edges.Facts] (m : (ℓ : Loc Cert.KernelIdeal.nD Cert.KernelIdeal.τ Cert.KernelIdeal.sig) → Buf (Elt Ideal) ℓ) : Prop :=
  ∀ c : Dev Cert.KernelIdeal.nD,
    (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_grid_edges [hPre_grid_edges : Cert.Pre_grid_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_grid_edges [hKernelIdeal : Cert.KernelIdeal.Facts] [hPre_grid_edges : Cert.Pre_grid_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_grid_edges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_grid_edges [hReferenceIdeal : Cert.ReferenceIdeal.Facts] [hPre_grid_edges : Cert.Pre_grid_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_grid_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_grid_edges [hKernelIdeal : Cert.KernelIdeal.Facts] [hReferenceIdeal : Cert.ReferenceIdeal.Facts] [hPre_grid_edges : Cert.Pre_grid_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_grid_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v394) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_grid_edges : Cert.Pre_grid_edges.Facts),
    quiescent_Kernel (hKernel := hKernel)
    ∧ quiescent_KernelIdeal (hKernelIdeal := hKernelIdeal)
    ∧ quiescent_KernelIdeal_pre_grid_edges (hKernelIdeal := hKernelIdeal) (hPre_grid_edges := hPre_grid_edges)
    ∧ quiescent_ReferenceIdeal (hReferenceIdeal := hReferenceIdeal)
    ∧ quiescent_ReferenceIdeal_pre_grid_edges (hReferenceIdeal := hReferenceIdeal) (hPre_grid_edges := hPre_grid_edges)
    ∧ preserves_Kernel_KernelIdeal
    ∧ algebraic_KernelIdeal_ReferenceIdeal_pre_grid_edges (hKernelIdeal := hKernelIdeal) (hReferenceIdeal := hReferenceIdeal) (hPre_grid_edges := hPre_grid_edges)
-- ==== Pre_grid_edges.lean ====
abbrev S1x64x64x3 : Shape := ⟨4, ![1, 64, 64, 3]⟩
abbrev S64x3x3x3 : Shape := ⟨4, ![64, 3, 3, 3]⟩
abbrev S64 : Shape := ⟨1, ![64]⟩
abbrev S64x64x1x1 : Shape := ⟨4, ![64, 64, 1, 1]⟩
abbrev S64x64x3x3 : Shape := ⟨4, ![64, 64, 3, 3]⟩
abbrev S1x4096x128 : Shape := ⟨3, ![1, 4096, 128]⟩
abbrev S36100 : Shape := ⟨1, ![36100]⟩
abbrev S4096 : Shape := ⟨1, ![4096]⟩
abbrev S64x64 : Shape := ⟨2, ![64, 64]⟩
abbrev S63x63 : Shape := ⟨2, ![63, 63]⟩
abbrev S3969 : Shape := ⟨1, ![3969]⟩
abbrev S63x64 : Shape := ⟨2, ![63, 64]⟩
abbrev S4032 : Shape := ⟨1, ![4032]⟩
abbrev S64x63 : Shape := ⟨2, ![64, 63]⟩
abbrev S_ : Shape := ⟨0, ![]⟩

class Facts : Prop where
  shapeCasts_S4096_S64x64 : S4096.ShapeCasts S64x64
  slices_S64x64_S63x63_1_1 : S64x64.Slices ![1, 1] S63x63
  shapeCasts_S63x63_S3969 : S63x63.ShapeCasts S3969
  slices_S64x64_S63x63_0_0 : S64x64.Slices ![0, 0] S63x63
  slices_S64x64_S63x64_1_0 : S64x64.Slices ![1, 0] S63x64
  shapeCasts_S63x64_S4032 : S63x64.ShapeCasts S4032
  slices_S64x64_S63x64_0_0 : S64x64.Slices ![0, 0] S63x64
  slices_S64x64_S63x63_1_0 : S64x64.Slices ![1, 0] S63x63
  slices_S64x64_S63x63_0_1 : S64x64.Slices ![0, 1] S63x63
  slices_S64x64_S64x63_0_1 : S64x64.Slices ![0, 1] S64x63
  shapeCasts_S64x63_S4032 : S64x63.ShapeCasts S4032
  slices_S64x64_S64x63_0_0 : S64x64.Slices ![0, 0] S64x63
  shapeCasts_S64x64_S4096 : S64x64.ShapeCasts S4096
  concatenates_S3969_S4032_S3969_S4032_S4096_S4032_S3969_S4032_S3969_S36100_d0 : Shape.Concatenates [S3969, S4032, S3969, S4032, S4096, S4032, S3969, S4032, S3969] S36100 0
  reducesTo_S36100_S_d0 : S36100.ReducesTo [0] S_
  h_S_ : 0 < S_.numel

variable [Facts]

def fn_part1 {F : FTy → Type} [FloatOps F] (main_arg13 : IVec S36100 32) (main_arg14 : IVec S36100 32) (main_v1 : IVec S64x64 32) (main_v3 : IVec S3969 32) (main_v5 : IVec S3969 32) (main_v7 : IVec S4032 32) (main_v9 : IVec S4032 32) (main_v11 : IVec S3969 32) (main_v13 : IVec S3969 32) (main_v15 : IVec S4032 32) (main_v17 : IVec S4032 32) (main_v18 : IVec S4096 32) (main_v19 : IVec S4096 32) (main_v21 : IVec S4032 32) (main_v23 : IVec S4032 32) : IVec S_ 1 :=
  let main_v24 : IVec S63x63 32 := (extractStridedSlice S63x63 ![0, 1] · slices_S64x64_S63x63_0_1) main_v1
  let main_v25 : IVec S3969 32 := shapeCast S3969 main_v24 shapeCasts_S63x63_S3969
  let main_v26 : IVec S63x63 32 := (extractStridedSlice S63x63 ![1, 0] · slices_S64x64_S63x63_1_0) main_v1
  let main_v27 : IVec S3969 32 := shapeCast S3969 main_v26 shapeCasts_S63x63_S3969
  let main_v28 : IVec S63x64 32 := (extractStridedSlice S63x64 ![0, 0] · slices_S64x64_S63x64_0_0) main_v1
  let main_v29 : IVec S4032 32 := shapeCast S4032 main_v28 shapeCasts_S63x64_S4032
  let main_v30 : IVec S63x64 32 := (extractStridedSlice S63x64 ![1, 0] · slices_S64x64_S63x64_1_0) main_v1
  let main_v31 : IVec S4032 32 := shapeCast S4032 main_v30 shapeCasts_S63x64_S4032
  let main_v32 : IVec S63x63 32 := (extractStridedSlice S63x63 ![0, 0] · slices_S64x64_S63x63_0_0) main_v1
  let main_v33 : IVec S3969 32 := shapeCast S3969 main_v32 shapeCasts_S63x63_S3969
  let main_v34 : IVec S63x63 32 := (extractStridedSlice S63x63 ![1, 1] · slices_S64x64_S63x63_1_1) main_v1
  let main_v35 : IVec S3969 32 := shapeCast S3969 main_v34 shapeCasts_S63x63_S3969
  let main_v36 : IVec S36100 32 := concatenate S36100 0 [⟨S3969, main_v3⟩, ⟨S4032, main_v7⟩, ⟨S3969, main_v11⟩, ⟨S4032, main_v15⟩, ⟨S4096, main_v18⟩, ⟨S4032, main_v21⟩, ⟨S3969, main_v25⟩, ⟨S4032, main_v29⟩, ⟨S3969, main_v33⟩] concatenates_S3969_S4032_S3969_S4032_S4096_S4032_S3969_S4032_S3969_S36100_d0
  let main_v37 : IVec S36100 1 := cmpi .eq main_arg13 main_v36
  let main_c : IVec S_ 1 := constantI S_ 1 1#1
  let main_v38 : IVec S_ 1 := (fun x v => Host.reduce IntOp.andi x v reducesTo_S36100_S_d0 h_S_) main_v37 main_c
  let main_v39 : IVec S36100 32 := concatenate S36100 0 [⟨S3969, main_v5⟩, ⟨S4032, main_v9⟩, ⟨S3969, main_v13⟩, ⟨S4032, main_v17⟩, ⟨S4096, main_v19⟩, ⟨S4032, main_v23⟩, ⟨S3969, main_v27⟩, ⟨S4032, main_v31⟩, ⟨S3969, main_v35⟩] concatenates_S3969_S4032_S3969_S4032_S4096_S4032_S3969_S4032_S3969_S36100_d0
  let main_v40 : IVec S36100 1 := cmpi .eq main_arg14 main_v39
  let main_c_0 : IVec S_ 1 := constantI S_ 1 1#1
  let main_v41 : IVec S_ 1 := (fun x v => Host.reduce IntOp.andi x v reducesTo_S36100_S_d0 h_S_) main_v40 main_c_0
  let main_v42 : IVec S_ 1 := andi main_v38 main_v41
  main_v42

def fn {F : FTy → Type} [FloatOps F] (main_arg0 : FVec F S1x64x64x3 .f32) (main_arg1 : FVec F S64x3x3x3 .f32) (main_arg2 : FVec F S64 .f32) (main_arg3 : FVec F S64x64x1x1 .f32) (main_arg4 : FVec F S64 .f32) (main_arg5 : FVec F S64x64x3x3 .f32) (main_arg6 : FVec F S64x64x3x3 .f32) (main_arg7 : FVec F S64x64x1x1 .f32) (main_arg8 : FVec F S64 .f32) (main_arg9 : FVec F S64x64x3x3 .f32) (main_arg10 : FVec F S64x64x3x3 .f32) (main_arg11 : FVec F S64x64x1x1 .f32) (main_arg12 : FVec F S1x4096x128 .f32) (main_arg13 : IVec S36100 32) (main_arg14 : IVec S36100 32) : IVec S_ 1 :=
  let main_v0 : IVec S4096 32 := iotaInDim S4096 32 0
  let main_v1 : IVec S64x64 32 := shapeCast S64x64 main_v0 shapeCasts_S4096_S64x64
  let main_v2 : IVec S63x63 32 := (extractStridedSlice S63x63 ![1, 1] · slices_S64x64_S63x63_1_1) main_v1
  let main_v3 : IVec S3969 32 := shapeCast S3969 main_v2 shapeCasts_S63x63_S3969
  let main_v4 : IVec S63x63 32 := (extractStridedSlice S63x63 ![0, 0] · slices_S64x64_S63x63_0_0) main_v1
  let main_v5 : IVec S3969 32 := shapeCast S3969 main_v4 shapeCasts_S63x63_S3969
  let main_v6 : IVec S63x64 32 := (extractStridedSlice S63x64 ![1, 0] · slices_S64x64_S63x64_1_0) main_v1
  let main_v7 : IVec S4032 32 := shapeCast S4032 main_v6 shapeCasts_S63x64_S4032
  let main_v8 : IVec S63x64 32 := (extractStridedSlice S63x64 ![0, 0] · slices_S64x64_S63x64_0_0) main_v1
  let main_v9 : IVec S4032 32 := shapeCast S4032 main_v8 shapeCasts_S63x64_S4032
  let main_v10 : IVec S63x63 32 := (extractStridedSlice S63x63 ![1, 0] · slices_S64x64_S63x63_1_0) main_v1
  let main_v11 : IVec S3969 32 := shapeCast S3969 main_v10 shapeCasts_S63x63_S3969
  let main_v12 : IVec S63x63 32 := (extractStridedSlice S63x63 ![0, 1] · slices_S64x64_S63x63_0_1) main_v1
  let main_v13 : IVec S3969 32 := shapeCast S3969 main_v12 shapeCasts_S63x63_S3969
  let main_v14 : IVec S64x63 32 := (extractStridedSlice S64x63 ![0, 1] · slices_S64x64_S64x63_0_1) main_v1
  let main_v15 : IVec S4032 32 := shapeCast S4032 main_v14 shapeCasts_S64x63_S4032
  let main_v16 : IVec S64x63 32 := (extractStridedSlice S64x63 ![0, 0] · slices_S64x64_S64x63_0_0) main_v1
  let main_v17 : IVec S4032 32 := shapeCast S4032 main_v16 shapeCasts_S64x63_S4032
  let main_v18 : IVec S4096 32 := shapeCast S4096 main_v1 shapeCasts_S64x64_S4096
  let main_v19 : IVec S4096 32 := shapeCast S4096 main_v1 shapeCasts_S64x64_S4096
  let main_v20 : IVec S64x63 32 := (extractStridedSlice S64x63 ![0, 0] · slices_S64x64_S64x63_0_0) main_v1
  let main_v21 : IVec S4032 32 := shapeCast S4032 main_v20 shapeCasts_S64x63_S4032
  let main_v22 : IVec S64x63 32 := (extractStridedSlice S64x63 ![0, 1] · slices_S64x64_S64x63_0_1) main_v1
  let main_v23 : IVec S4032 32 := shapeCast S4032 main_v22 shapeCasts_S64x63_S4032
  fn_part1 (F := F) main_arg13 main_arg14 main_v1 main_v3 main_v5 main_v7 main_v9 main_v11 main_v13 main_v15 main_v17 main_v18 main_v19 main_v21 main_v23
-- ==== Kernel.lean ====
abbrev S1x64x64x3 : Shape := ⟨4, ![1, 64, 64, 3]⟩
abbrev S64x3x3x3 : Shape := ⟨4, ![64, 3, 3, 3]⟩
abbrev S64 : Shape := ⟨1, ![64]⟩
abbrev S64x64x1x1 : Shape := ⟨4, ![64, 64, 1, 1]⟩
abbrev S64x64x3x3 : Shape := ⟨4, ![64, 64, 3, 3]⟩
abbrev S1x4096x128 : Shape := ⟨3, ![1, 4096, 128]⟩
abbrev S36100 : Shape := ⟨1, ![36100]⟩
abbrev S4096x3 : Shape := ⟨2, ![4096, 3]⟩
abbrev S3x3x64x3 : Shape := ⟨4, ![3, 3, 64, 3]⟩
abbrev S9x64x3 : Shape := ⟨3, ![9, 64, 3]⟩
abbrev S1x64 : Shape := ⟨2, ![1, 64]⟩
abbrev S64x64 : Shape := ⟨2, ![64, 64]⟩
abbrev S3x3x64x64 : Shape := ⟨4, ![3, 3, 64, 64]⟩
abbrev S9x64x64 : Shape := ⟨3, ![9, 64, 64]⟩
abbrev S4096x128 : Shape := ⟨2, ![4096, 128]⟩
abbrev S4096x16 : Shape := ⟨2, ![4096, 16]⟩
abbrev S4240x128 : Shape := ⟨2, ![4240, 128]⟩
abbrev S4096x1 : Shape := ⟨2, ![4096, 1]⟩
abbrev S1x3 : Shape := ⟨2, ![1, 3]⟩
abbrev S4095x3 : Shape := ⟨2, ![4095, 3]⟩
abbrev S64x3 : Shape := ⟨2, ![64, 3]⟩
abbrev S4032x3 : Shape := ⟨2, ![4032, 3]⟩
abbrev S1x64x3 : Shape := ⟨3, ![1, 64, 3]⟩
abbrev S4096x64 : Shape := ⟨2, ![4096, 64]⟩
abbrev S4095x64 : Shape := ⟨2, ![4095, 64]⟩
abbrev S4032x64 : Shape := ⟨2, ![4032, 64]⟩
abbrev S1x64x64 : Shape := ⟨3, ![1, 64, 64]⟩
abbrev S4096 : Shape := ⟨1, ![4096]⟩
abbrev S65x64 : Shape := ⟨2, ![65, 64]⟩
abbrev S4031x64 : Shape := ⟨2, ![4031, 64]⟩
abbrev S63x64 : Shape := ⟨2, ![63, 64]⟩
abbrev S4033x64 : Shape := ⟨2, ![4033, 64]⟩
abbrev S72x128 : Shape := ⟨2, ![72, 128]⟩
abbrev S16x128 : Shape := ⟨2, ![16, 128]⟩
abbrev S64x64x16 : Shape := ⟨3, ![64, 64, 16]⟩
abbrev S16x64x64 : Shape := ⟨3, ![16, 64, 64]⟩
abbrev S1x16x64x64 : Shape := ⟨4, ![1, 16, 64, 64]⟩

abbrev nBuf : Space → Nat
  | .hbm => 37
  | .vmem => 15
  | .smem => 0
  | _ => 0

abbrev bufTy : (tb : Table) → Fin (tcTables nBuf tb) → BufTy
  | .hbm, ⟨0, _⟩ => ⟨S1x64x64x3, .f32⟩
  | .hbm, ⟨1, _⟩ => ⟨S64x3x3x3, .f32⟩
  | .hbm, ⟨2, _⟩ => ⟨S64, .f32⟩
  | .hbm, ⟨3, _⟩ => ⟨S64x64x1x1, .f32⟩
  | .hbm, ⟨4, _⟩ => ⟨S64, .f32⟩
  | .hbm, ⟨5, _⟩ => ⟨S64x64x3x3, .f32⟩
  | .hbm, ⟨6, _⟩ => ⟨S64x64x3x3, .f32⟩
  | .hbm, ⟨7, _⟩ => ⟨S64x64x1x1, .f32⟩
  | .hbm, ⟨8, _⟩ => ⟨S64, .f32⟩
  | .hbm, ⟨9, _⟩ => ⟨S64x64x3x3, .f32⟩
  | .hbm, ⟨10, _⟩ => ⟨S64x64x3x3, .f32⟩
  | .hbm, ⟨11, _⟩ => ⟨S64x64x1x1, .f32⟩
  | .hbm, ⟨12, _⟩ => ⟨S1x4096x128, .f32⟩
  | .hbm, ⟨13, _⟩ => ⟨S36100, .i32⟩
  | .hbm, ⟨14, _⟩ => ⟨S36100, .i32⟩
  | .hbm, ⟨15, _⟩ => ⟨S4096x3, .f32⟩
  | .hbm, ⟨16, _⟩ => ⟨S3x3x64x3, .f32⟩
  | .hbm, ⟨17, _⟩ => ⟨S9x64x3, .f32⟩
  | .hbm, ⟨18, _⟩ => ⟨S1x64, .f32⟩
  | .hbm, ⟨19, _⟩ => ⟨S64x64, .f32⟩
  | .hbm, ⟨20, _⟩ => ⟨S1x64, .f32⟩
  | .hbm, ⟨21, _⟩ => ⟨S3x3x64x64, .f32⟩
  | .hbm, ⟨22, _⟩ => ⟨S9x64x64, .f32⟩
  | .hbm, ⟨23, _⟩ => ⟨S3x3x64x64, .f32⟩
  | .hbm, ⟨24, _⟩ => ⟨S9x64x64, .f32⟩
  | .hbm, ⟨25, _⟩ => ⟨S64x64, .f32⟩
  | .hbm, ⟨26, _⟩ => ⟨S1x64, .f32⟩
  | .hbm, ⟨27, _⟩ => ⟨S3x3x64x64, .f32⟩
  | .hbm, ⟨28, _⟩ => ⟨S9x64x64, .f32⟩
  | .hbm, ⟨29, _⟩ => ⟨S3x3x64x64, .f32⟩
  | .hbm, ⟨30, _⟩ => ⟨S9x64x64, .f32⟩
  | .hbm, ⟨31, _⟩ => ⟨S64x64, .f32⟩
  | .hbm, ⟨32, _⟩ => ⟨S4096x128, .f32⟩
  | .hbm, ⟨33, _⟩ => ⟨S4096x16, .f32⟩
  | .hbm, ⟨34, _⟩ => ⟨S64x64x16, .f32⟩
  | .hbm, ⟨35, _⟩ => ⟨S16x64x64, .f32⟩
  | .hbm, ⟨36, _⟩ => ⟨S1x16x64x64, .f32⟩
  | .local _ .vmem, ⟨0, _⟩ => ⟨S4096x3, .f32⟩
  | .local _ .vmem, ⟨1, _⟩ => ⟨S9x64x3, .f32⟩
  | .local _ .vmem, ⟨2, _⟩ => ⟨S1x64, .f32⟩
  | .local _ .vmem, ⟨3, _⟩ => ⟨S64x64, .f32⟩
  | .local _ .vmem, ⟨4, _⟩ => ⟨S1x64, .f32⟩
  | .local _ .vmem, ⟨5, _⟩ => ⟨S9x64x64, .f32⟩
  | .local _ .vmem, ⟨6, _⟩ => ⟨S9x64x64, .f32⟩
  | .local _ .vmem, ⟨7, _⟩ => ⟨S64x64, .f32⟩
  | .local _ .vmem, ⟨8, _⟩ => ⟨S1x64, .f32⟩
  | .local _ .vmem, ⟨9, _⟩ => ⟨S9x64x64, .f32⟩
  | .local _ .vmem, ⟨10, _⟩ => ⟨S9x64x64, .f32⟩
  | .local _ .vmem, ⟨11, _⟩ => ⟨S64x64, .f32⟩
  | .local _ .vmem, ⟨12, _⟩ => ⟨S4096x128, .f32⟩
  | .local _ .vmem, ⟨13, _⟩ => ⟨S4096x16, .f32⟩
  | .local _ .vmem, ⟨14, _⟩ => ⟨S4240x128, .f32⟩
  | _, _ => ⟨S1x64x64x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S4096x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x64x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S9x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S9x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4096x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4096x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ReferenceIdeal.lean ====
abbrev S1x64x64x3 : Shape := ⟨4, ![1, 64, 64, 3]⟩
abbrev S64x3x3x3 : Shape := ⟨4, ![64, 3, 3, 3]⟩
abbrev S64 : Shape := ⟨1, ![64]⟩
abbrev S64x64x1x1 : Shape := ⟨4, ![64, 64, 1, 1]⟩
abbrev S64x64x3x3 : Shape := ⟨4, ![64, 64, 3, 3]⟩
abbrev S1x4096x128 : Shape := ⟨3, ![1, 4096, 128]⟩
abbrev S36100 : Shape := ⟨1, ![36100]⟩
abbrev S1x3x64x64 : Shape := ⟨4, ![1, 3, 64, 64]⟩
abbrev S_ : Shape := ⟨0, ![]⟩
abbrev S1x3x66x66 : Shape := ⟨4, ![1, 3, 66, 66]⟩
abbrev S64x3x1x1 : Shape := ⟨4, ![64, 3, 1, 1]⟩
abbrev S64x3 : Shape := ⟨2, ![64, 3]⟩
abbrev S1x64x64x64 : Shape := ⟨4, ![1, 64, 64, 64]⟩
abbrev S1x64x1x1 : Shape := ⟨4, ![1, 64, 1, 1]⟩
abbrev S64x64 : Shape := ⟨2, ![64, 64]⟩
abbrev S1x64x66x66 : Shape := ⟨4, ![1, 64, 66, 66]⟩
abbrev S1x64x4096 : Shape := ⟨3, ![1, 64, 4096]⟩
abbrev S1x4096x64 : Shape := ⟨3, ![1, 4096, 64]⟩
abbrev S1x4096 : Shape := ⟨2, ![1, 4096]⟩
abbrev S1x4096x1 : Shape := ⟨3, ![1, 4096, 1]⟩
abbrev S36100x1 : Shape := ⟨2, ![36100, 1]⟩
abbrev S1x36100x64 : Shape := ⟨3, ![1, 36100, 64]⟩
abbrev S1x36100 : Shape := ⟨2, ![1, 36100]⟩
abbrev S4096x128 : Shape := ⟨2, ![4096, 128]⟩
abbrev S36100x128 : Shape := ⟨2, ![36100, 128]⟩
abbrev S4096 : Shape := ⟨1, ![4096]⟩
abbrev S4096x1 : Shape := ⟨2, ![4096, 1]⟩
abbrev S1x16x128 : Shape := ⟨3, ![1, 16, 128]⟩
abbrev S1x4096x16 : Shape := ⟨3, ![1, 4096, 16]⟩
abbrev S1x64x64x16 : Shape := ⟨4, ![1, 64, 64, 16]⟩
abbrev S1x16x64x64 : Shape := ⟨4, ![1, 16, 64, 64]⟩

abbrev nBuf : Space → Nat
  | .hbm => 597
  | .vmem => 0
  | .smem => 0
  | _ => 0

abbrev hbmTy0_0 (i : Nat) : BufTy := match i % 128 with
  | 0 => ⟨S1x64x64x3, .f32⟩
  | 1 => ⟨S64x3x3x3, .f32⟩
  | 2 => ⟨S64, .f32⟩
  | 3 => ⟨S64x64x1x1, .f32⟩
  | 4 => ⟨S64, .f32⟩
  | 5 => ⟨S64x64x3x3, .f32⟩
  | 6 => ⟨S64x64x3x3, .f32⟩
  | 7 => ⟨S64x64x1x1, .f32⟩
  | 8 => ⟨S64, .f32⟩
  | 9 => ⟨S64x64x3x3, .f32⟩
  | 10 => ⟨S64x64x3x3, .f32⟩
  | 11 => ⟨S64x64x1x1, .f32⟩
  | 12 => ⟨S1x4096x128, .f32⟩
  | 13 => ⟨S36100, .i32⟩
  | 14 => ⟨S36100, .i32⟩
  | 15 => ⟨S1x3x64x64, .f32⟩
  | 16 => ⟨S_, .i32⟩
  | 17 => ⟨S_, .f32⟩
  | 18 => ⟨S1x3x66x66, .f32⟩
  | 19 => ⟨S64x3x1x1, .f32⟩
  | 20 => ⟨S64x3, .f32⟩
  | 21 => ⟨S1x3x64x64, .f32⟩
  | 22 => ⟨S1x64x64x64, .f32⟩
  | 23 => ⟨S1x64x64x64, .f32⟩
  | 24 => ⟨S64x3x1x1, .f32⟩
  | 25 => ⟨S64x3, .f32⟩
  | 26 => ⟨S1x3x64x64, .f32⟩
  | 27 => ⟨S1x64x64x64, .f32⟩
  | 28 => ⟨S1x64x64x64, .f32⟩
  | 29 => ⟨S1x64x64x64, .f32⟩
  | 30 => ⟨S64x3x1x1, .f32⟩
  | 31 => ⟨S64x3, .f32⟩
  | 32 => ⟨S1x3x64x64, .f32⟩
  | 33 => ⟨S1x64x64x64, .f32⟩
  | 34 => ⟨S1x64x64x64, .f32⟩
  | 35 => ⟨S1x64x64x64, .f32⟩
  | 36 => ⟨S64x3x1x1, .f32⟩
  | 37 => ⟨S64x3, .f32⟩
  | 38 => ⟨S1x3x64x64, .f32⟩
  | 39 => ⟨S1x64x64x64, .f32⟩
  | 40 => ⟨S1x64x64x64, .f32⟩
  | 41 => ⟨S1x64x64x64, .f32⟩
  | 42 => ⟨S64x3x1x1, .f32⟩
  | 43 => ⟨S64x3, .f32⟩
  | 44 => ⟨S1x3x64x64, .f32⟩
  | 45 => ⟨S1x64x64x64, .f32⟩
  | 46 => ⟨S1x64x64x64, .f32⟩
  | 47 => ⟨S1x64x64x64, .f32⟩
  | 48 => ⟨S64x3x1x1, .f32⟩
  | 49 => ⟨S64x3, .f32⟩
  | 50 => ⟨S1x3x64x64, .f32⟩
  | 51 => ⟨S1x64x64x64, .f32⟩
  | 52 => ⟨S1x64x64x64, .f32⟩
  | 53 => ⟨S1x64x64x64, .f32⟩
  | 54 => ⟨S64x3x1x1, .f32⟩
  | 55 => ⟨S64x3, .f32⟩
  | 56 => ⟨S1x3x64x64, .f32⟩
  | 57 => ⟨S1x64x64x64, .f32⟩
  | 58 => ⟨S1x64x64x64, .f32⟩
  | 59 => ⟨S1x64x64x64, .f32⟩
  | 60 => ⟨S64x3x1x1, .f32⟩
  | 61 => ⟨S64x3, .f32⟩
  | 62 => ⟨S1x3x64x64, .f32⟩
  | 63 => ⟨S1x64x64x64, .f32⟩
  | 64 => ⟨S1x64x64x64, .f32⟩
  | 65 => ⟨S1x64x64x64, .f32⟩
  | 66 => ⟨S64x3x1x1, .f32⟩
  | 67 => ⟨S64x3, .f32⟩
  | 68 => ⟨S1x3x64x64, .f32⟩
  | 69 => ⟨S1x64x64x64, .f32⟩
  | 70 => ⟨S1x64x64x64, .f32⟩
  | 71 => ⟨S1x64x64x64, .f32⟩
  | 72 => ⟨S1x64x1x1, .f32⟩
  | 73 => ⟨S1x64x64x64, .f32⟩
  | 74 => ⟨S1x64x64x64, .f32⟩
  | 75 => ⟨S_, .f32⟩
  | 76 => ⟨S1x64x64x64, .f32⟩
  | 77 => ⟨S1x64x64x64, .f32⟩
  | 78 => ⟨S_, .i32⟩
  | 79 => ⟨S_, .f32⟩
  | 80 => ⟨S1x64x64x64, .f32⟩
  | 81 => ⟨S64x64, .f32⟩
  | 82 => ⟨S1x64x64x64, .f32⟩
  | 83 => ⟨S1x64x64x64, .f32⟩
  | 84 => ⟨S1x64x1x1, .f32⟩
  | 85 => ⟨S1x64x64x64, .f32⟩
  | 86 => ⟨S1x64x64x64, .f32⟩
  | 87 => ⟨S_, .f32⟩
  | 88 => ⟨S1x64x64x64, .f32⟩
  | 89 => ⟨S1x64x64x64, .f32⟩
  | 90 => ⟨S_, .i32⟩
  | 91 => ⟨S_, .f32⟩
  | 92 => ⟨S1x64x66x66, .f32⟩
  | 93 => ⟨S64x64x1x1, .f32⟩
  | 94 => ⟨S64x64, .f32⟩
  | 95 => ⟨S1x64x64x64, .f32⟩
  | 96 => ⟨S1x64x64x64, .f32⟩
  | 97 => ⟨S1x64x64x64, .f32⟩
  | 98 => ⟨S64x64x1x1, .f32⟩
  | 99 => ⟨S64x64, .f32⟩
  | 100 => ⟨S1x64x64x64, .f32⟩
  | 101 => ⟨S1x64x64x64, .f32⟩
  | 102 => ⟨S1x64x64x64, .f32⟩
  | 103 => ⟨S1x64x64x64, .f32⟩
  | 104 => ⟨S64x64x1x1, .f32⟩
  | 105 => ⟨S64x64, .f32⟩
  | 106 => ⟨S1x64x64x64, .f32⟩
  | 107 => ⟨S1x64x64x64, .f32⟩
  | 108 => ⟨S1x64x64x64, .f32⟩
  | 109 => ⟨S1x64x64x64, .f32⟩
  | 110 => ⟨S64x64x1x1, .f32⟩
  | 111 => ⟨S64x64, .f32⟩
  | 112 => ⟨S1x64x64x64, .f32⟩
  | 113 => ⟨S1x64x64x64, .f32⟩
  | 114 => ⟨S1x64x64x64, .f32⟩
  | 115 => ⟨S1x64x64x64, .f32⟩
  | 116 => ⟨S64x64x1x1, .f32⟩
  | 117 => ⟨S64x64, .f32⟩
  | 118 => ⟨S1x64x64x64, .f32⟩
  | 119 => ⟨S1x64x64x64, .f32⟩
  | 120 => ⟨S1x64x64x64, .f32⟩
  | 121 => ⟨S1x64x64x64, .f32⟩
  | 122 => ⟨S64x64x1x1, .f32⟩
  | 123 => ⟨S64x64, .f32⟩
  | 124 => ⟨S1x64x64x64, .f32⟩
  | 125 => ⟨S1x64x64x64, .f32⟩
  | 126 => ⟨S1x64x64x64, .f32⟩
  | 127 => ⟨S1x64x64x64, .f32⟩
  | _ => ⟨S1x64x64x3, .f32⟩

abbrev hbmTy0_1 (i : Nat) : BufTy := match i % 128 with
  | 0 => ⟨S64x64x1x1, .f32⟩
  | 1 => ⟨S64x64, .f32⟩
  | 2 => ⟨S1x64x64x64, .f32⟩
  | 3 => ⟨S1x64x64x64, .f32⟩
  | 4 => ⟨S1x64x64x64, .f32⟩
  | 5 => ⟨S1x64x64x64, .f32⟩
  | 6 => ⟨S64x64x1x1, .f32⟩
  | 7 => ⟨S64x64, .f32⟩
  | 8 => ⟨S1x64x64x64, .f32⟩
  | 9 => ⟨S1x64x64x64, .f32⟩
  | 10 => ⟨S1x64x64x64, .f32⟩
  | 11 => ⟨S1x64x64x64, .f32⟩
  | 12 => ⟨S64x64x1x1, .f32⟩
  | 13 => ⟨S64x64, .f32⟩
  | 14 => ⟨S1x64x64x64, .f32⟩
  | 15 => ⟨S1x64x64x64, .f32⟩
  | 16 => ⟨S1x64x64x64, .f32⟩
  | 17 => ⟨S1x64x64x64, .f32⟩
  | 18 => ⟨S_, .f32⟩
  | 19 => ⟨S64, .f32⟩
  | 20 => ⟨S1x64x1x1, .f32⟩
  | 21 => ⟨S_, .f32⟩
  | 22 => ⟨S1x64x1x1, .f32⟩
  | 23 => ⟨S1x64x1x1, .f32⟩
  | 24 => ⟨S_, .i32⟩
  | 25 => ⟨S_, .f32⟩
  | 26 => ⟨S64, .f32⟩
  | 27 => ⟨S1x64x1x1, .f32⟩
  | 28 => ⟨S_, .f32⟩
  | 29 => ⟨S1x64x1x1, .f32⟩
  | 30 => ⟨S1x64x1x1, .f32⟩
  | 31 => ⟨S1x64x64x64, .f32⟩
  | 32 => ⟨S1x64x64x64, .f32⟩
  | 33 => ⟨S1x64x64x64, .f32⟩
  | 34 => ⟨S_, .f32⟩
  | 35 => ⟨S_, .f32⟩
  | 36 => ⟨S_, .f32⟩
  | 37 => ⟨S_, .f32⟩
  | 38 => ⟨S64, .f32⟩
  | 39 => ⟨S1x64x1x1, .f32⟩
  | 40 => ⟨S1x64x1x1, .f32⟩
  | 41 => ⟨S1x64x1x1, .f32⟩
  | 42 => ⟨S_, .f32⟩
  | 43 => ⟨S_, .i1⟩
  | 44 => ⟨S_, .f32⟩
  | 45 => ⟨S_, .f32⟩
  | 46 => ⟨S1x64x1x1, .f32⟩
  | 47 => ⟨S1x64x1x1, .f32⟩
  | 48 => ⟨S1x64x64x64, .f32⟩
  | 49 => ⟨S1x64x64x64, .f32⟩
  | 50 => ⟨S_, .f32⟩
  | 51 => ⟨S1x64x1x1, .f32⟩
  | 52 => ⟨S1x64x1x1, .f32⟩
  | 53 => ⟨S1x64x1x1, .f32⟩
  | 54 => ⟨S1x64x64x64, .f32⟩
  | 55 => ⟨S1x64x64x64, .f32⟩
  | 56 => ⟨S_, .f32⟩
  | 57 => ⟨S1x64x64x64, .f32⟩
  | 58 => ⟨S1x64x64x64, .f32⟩
  | 59 => ⟨S_, .i32⟩
  | 60 => ⟨S_, .f32⟩
  | 61 => ⟨S1x64x66x66, .f32⟩
  | 62 => ⟨S64x64x1x1, .f32⟩
  | 63 => ⟨S64x64, .f32⟩
  | 64 => ⟨S1x64x64x64, .f32⟩
  | 65 => ⟨S1x64x64x64, .f32⟩
  | 66 => ⟨S1x64x64x64, .f32⟩
  | 67 => ⟨S64x64x1x1, .f32⟩
  | 68 => ⟨S64x64, .f32⟩
  | 69 => ⟨S1x64x64x64, .f32⟩
  | 70 => ⟨S1x64x64x64, .f32⟩
  | 71 => ⟨S1x64x64x64, .f32⟩
  | 72 => ⟨S1x64x64x64, .f32⟩
  | 73 => ⟨S64x64x1x1, .f32⟩
  | 74 => ⟨S64x64, .f32⟩
  | 75 => ⟨S1x64x64x64, .f32⟩
  | 76 => ⟨S1x64x64x64, .f32⟩
  | 77 => ⟨S1x64x64x64, .f32⟩
  | 78 => ⟨S1x64x64x64, .f32⟩
  | 79 => ⟨S64x64x1x1, .f32⟩
  | 80 => ⟨S64x64, .f32⟩
  | 81 => ⟨S1x64x64x64, .f32⟩
  | 82 => ⟨S1x64x64x64, .f32⟩
  | 83 => ⟨S1x64x64x64, .f32⟩
  | 84 => ⟨S1x64x64x64, .f32⟩
  | 85 => ⟨S64x64x1x1, .f32⟩
  | 86 => ⟨S64x64, .f32⟩
  | 87 => ⟨S1x64x64x64, .f32⟩
  | 88 => ⟨S1x64x64x64, .f32⟩
  | 89 => ⟨S1x64x64x64, .f32⟩
  | 90 => ⟨S1x64x64x64, .f32⟩
  | 91 => ⟨S64x64x1x1, .f32⟩
  | 92 => ⟨S64x64, .f32⟩
  | 93 => ⟨S1x64x64x64, .f32⟩
  | 94 => ⟨S1x64x64x64, .f32⟩
  | 95 => ⟨S1x64x64x64, .f32⟩
  | 96 => ⟨S1x64x64x64, .f32⟩
  | 97 => ⟨S64x64x1x1, .f32⟩
  | 98 => ⟨S64x64, .f32⟩
  | 99 => ⟨S1x64x64x64, .f32⟩
  | 100 => ⟨S1x64x64x64, .f32⟩
  | 101 => ⟨S1x64x64x64, .f32⟩
  | 102 => ⟨S1x64x64x64, .f32⟩
  | 103 => ⟨S64x64x1x1, .f32⟩
  | 104 => ⟨S64x64, .f32⟩
  | 105 => ⟨S1x64x64x64, .f32⟩
  | 106 => ⟨S1x64x64x64, .f32⟩
  | 107 => ⟨S1x64x64x64, .f32⟩
  | 108 => ⟨S1x64x64x64, .f32⟩
  | 109 => ⟨S64x64x1x1, .f32⟩
  | 110 => ⟨S64x64, .f32⟩
  | 111 => ⟨S1x64x64x64, .f32⟩
  | 112 => ⟨S1x64x64x64, .f32⟩
  | 113 => ⟨S1x64x64x64, .f32⟩
  | 114 => ⟨S1x64x64x64, .f32⟩
  | 115 => ⟨S_, .f32⟩
  | 116 => ⟨S64, .f32⟩
  | 117 => ⟨S1x64x1x1, .f32⟩
  | 118 => ⟨S_, .f32⟩
  | 119 => ⟨S1x64x1x1, .f32⟩
  | 120 => ⟨S1x64x1x1, .f32⟩
  | 121 => ⟨S_, .i32⟩
  | 122 => ⟨S_, .f32⟩
  | 123 => ⟨S64, .f32⟩
  | 124 => ⟨S1x64x1x1, .f32⟩
  | 125 => ⟨S_, .f32⟩
  | 126 => ⟨S1x64x1x1, .f32⟩
  | 127 => ⟨S1x64x1x1, .f32⟩
  | _ => ⟨S1x64x64x3, .f32⟩

abbrev hbmTy0_2 (i : Nat) : BufTy := match i % 128 with
  | 0 => ⟨S1x64x64x64, .f32⟩
  | 1 => ⟨S1x64x64x64, .f32⟩
  | 2 => ⟨S1x64x64x64, .f32⟩
  | 3 => ⟨S_, .f32⟩
  | 4 => ⟨S_, .f32⟩
  | 5 => ⟨S_, .f32⟩
  | 6 => ⟨S_, .f32⟩
  | 7 => ⟨S64, .f32⟩
  | 8 => ⟨S1x64x1x1, .f32⟩
  | 9 => ⟨S1x64x1x1, .f32⟩
  | 10 => ⟨S1x64x1x1, .f32⟩
  | 11 => ⟨S_, .f32⟩
  | 12 => ⟨S_, .i1⟩
  | 13 => ⟨S_, .f32⟩
  | 14 => ⟨S_, .f32⟩
  | 15 => ⟨S1x64x1x1, .f32⟩
  | 16 => ⟨S1x64x1x1, .f32⟩
  | 17 => ⟨S1x64x64x64, .f32⟩
  | 18 => ⟨S1x64x64x64, .f32⟩
  | 19 => ⟨S_, .f32⟩
  | 20 => ⟨S1x64x1x1, .f32⟩
  | 21 => ⟨S1x64x1x1, .f32⟩
  | 22 => ⟨S1x64x1x1, .f32⟩
  | 23 => ⟨S1x64x64x64, .f32⟩
  | 24 => ⟨S1x64x64x64, .f32⟩
  | 25 => ⟨S1x64x64x64, .f32⟩
  | 26 => ⟨S_, .f32⟩
  | 27 => ⟨S1x64x64x64, .f32⟩
  | 28 => ⟨S1x64x64x64, .f32⟩
  | 29 => ⟨S_, .i32⟩
  | 30 => ⟨S_, .f32⟩
  | 31 => ⟨S1x64x64x64, .f32⟩
  | 32 => ⟨S64x64, .f32⟩
  | 33 => ⟨S1x64x64x64, .f32⟩
  | 34 => ⟨S1x64x64x64, .f32⟩
  | 35 => ⟨S1x64x1x1, .f32⟩
  | 36 => ⟨S1x64x64x64, .f32⟩
  | 37 => ⟨S1x64x64x64, .f32⟩
  | 38 => ⟨S_, .i32⟩
  | 39 => ⟨S_, .f32⟩
  | 40 => ⟨S1x64x66x66, .f32⟩
  | 41 => ⟨S64x64x1x1, .f32⟩
  | 42 => ⟨S64x64, .f32⟩
  | 43 => ⟨S1x64x64x64, .f32⟩
  | 44 => ⟨S1x64x64x64, .f32⟩
  | 45 => ⟨S1x64x64x64, .f32⟩
  | 46 => ⟨S64x64x1x1, .f32⟩
  | 47 => ⟨S64x64, .f32⟩
  | 48 => ⟨S1x64x64x64, .f32⟩
  | 49 => ⟨S1x64x64x64, .f32⟩
  | 50 => ⟨S1x64x64x64, .f32⟩
  | 51 => ⟨S1x64x64x64, .f32⟩
  | 52 => ⟨S64x64x1x1, .f32⟩
  | 53 => ⟨S64x64, .f32⟩
  | 54 => ⟨S1x64x64x64, .f32⟩
  | 55 => ⟨S1x64x64x64, .f32⟩
  | 56 => ⟨S1x64x64x64, .f32⟩
  | 57 => ⟨S1x64x64x64, .f32⟩
  | 58 => ⟨S64x64x1x1, .f32⟩
  | 59 => ⟨S64x64, .f32⟩
  | 60 => ⟨S1x64x64x64, .f32⟩
  | 61 => ⟨S1x64x64x64, .f32⟩
  | 62 => ⟨S1x64x64x64, .f32⟩
  | 63 => ⟨S1x64x64x64, .f32⟩
  | 64 => ⟨S64x64x1x1, .f32⟩
  | 65 => ⟨S64x64, .f32⟩
  | 66 => ⟨S1x64x64x64, .f32⟩
  | 67 => ⟨S1x64x64x64, .f32⟩
  | 68 => ⟨S1x64x64x64, .f32⟩
  | 69 => ⟨S1x64x64x64, .f32⟩
  | 70 => ⟨S64x64x1x1, .f32⟩
  | 71 => ⟨S64x64, .f32⟩
  | 72 => ⟨S1x64x64x64, .f32⟩
  | 73 => ⟨S1x64x64x64, .f32⟩
  | 74 => ⟨S1x64x64x64, .f32⟩
  | 75 => ⟨S1x64x64x64, .f32⟩
  | 76 => ⟨S64x64x1x1, .f32⟩
  | 77 => ⟨S64x64, .f32⟩
  | 78 => ⟨S1x64x64x64, .f32⟩
  | 79 => ⟨S1x64x64x64, .f32⟩
  | 80 => ⟨S1x64x64x64, .f32⟩
  | 81 => ⟨S1x64x64x64, .f32⟩
  | 82 => ⟨S64x64x1x1, .f32⟩
  | 83 => ⟨S64x64, .f32⟩
  | 84 => ⟨S1x64x64x64, .f32⟩
  | 85 => ⟨S1x64x64x64, .f32⟩
  | 86 => ⟨S1x64x64x64, .f32⟩
  | 87 => ⟨S1x64x64x64, .f32⟩
  | 88 => ⟨S64x64x1x1, .f32⟩
  | 89 => ⟨S64x64, .f32⟩
  | 90 => ⟨S1x64x64x64, .f32⟩
  | 91 => ⟨S1x64x64x64, .f32⟩
  | 92 => ⟨S1x64x64x64, .f32⟩
  | 93 => ⟨S1x64x64x64, .f32⟩
  | 94 => ⟨S_, .f32⟩
  | 95 => ⟨S64, .f32⟩
  | 96 => ⟨S1x64x1x1, .f32⟩
  | 97 => ⟨S_, .f32⟩
  | 98 => ⟨S1x64x1x1, .f32⟩
  | 99 => ⟨S1x64x1x1, .f32⟩
  | 100 => ⟨S_, .i32⟩
  | 101 => ⟨S_, .f32⟩
  | 102 => ⟨S64, .f32⟩
  | 103 => ⟨S1x64x1x1, .f32⟩
  | 104 => ⟨S_, .f32⟩
  | 105 => ⟨S1x64x1x1, .f32⟩
  | 106 => ⟨S1x64x1x1, .f32⟩
  | 107 => ⟨S1x64x64x64, .f32⟩
  | 108 => ⟨S1x64x64x64, .f32⟩
  | 109 => ⟨S1x64x64x64, .f32⟩
  | 110 => ⟨S_, .f32⟩
  | 111 => ⟨S_, .f32⟩
  | 112 => ⟨S_, .f32⟩
  | 113 => ⟨S_, .f32⟩
  | 114 => ⟨S64, .f32⟩
  | 115 => ⟨S1x64x1x1, .f32⟩
  | 116 => ⟨S1x64x1x1, .f32⟩
  | 117 => ⟨S1x64x1x1, .f32⟩
  | 118 => ⟨S_, .f32⟩
  | 119 => ⟨S_, .i1⟩
  | 120 => ⟨S_, .f32⟩
  | 121 => ⟨S_, .f32⟩
  | 122 => ⟨S1x64x1x1, .f32⟩
  | 123 => ⟨S1x64x1x1, .f32⟩
  | 124 => ⟨S1x64x64x64, .f32⟩
  | 125 => ⟨S1x64x64x64, .f32⟩
  | 126 => ⟨S_, .f32⟩
  | 127 => ⟨S1x64x1x1, .f32⟩
  | _ => ⟨S1x64x64x3, .f32⟩

abbrev hbmTy0_3 (i : Nat) : BufTy := match i % 128 with
  | 0 => ⟨S1x64x1x1, .f32⟩
  | 1 => ⟨S1x64x1x1, .f32⟩
  | 2 => ⟨S1x64x64x64, .f32⟩
  | 3 => ⟨S1x64x64x64, .f32⟩
  | 4 => ⟨S_, .f32⟩
  | 5 => ⟨S1x64x64x64, .f32⟩
  | 6 => ⟨S1x64x64x64, .f32⟩
  | 7 => ⟨S_, .i32⟩
  | 8 => ⟨S_, .f32⟩
  | 9 => ⟨S1x64x66x66, .f32⟩
  | 10 => ⟨S64x64x1x1, .f32⟩
  | 11 => ⟨S64x64, .f32⟩
  | 12 => ⟨S1x64x64x64, .f32⟩
  | 13 => ⟨S1x64x64x64, .f32⟩
  | 14 => ⟨S1x64x64x64, .f32⟩
  | 15 => ⟨S64x64x1x1, .f32⟩
  | 16 => ⟨S64x64, .f32⟩
  | 17 => ⟨S1x64x64x64, .f32⟩
  | 18 => ⟨S1x64x64x64, .f32⟩
  | 19 => ⟨S1x64x64x64, .f32⟩
  | 20 => ⟨S1x64x64x64, .f32⟩
  | 21 => ⟨S64x64x1x1, .f32⟩
  | 22 => ⟨S64x64, .f32⟩
  | 23 => ⟨S1x64x64x64, .f32⟩
  | 24 => ⟨S1x64x64x64, .f32⟩
  | 25 => ⟨S1x64x64x64, .f32⟩
  | 26 => ⟨S1x64x64x64, .f32⟩
  | 27 => ⟨S64x64x1x1, .f32⟩
  | 28 => ⟨S64x64, .f32⟩
  | 29 => ⟨S1x64x64x64, .f32⟩
  | 30 => ⟨S1x64x64x64, .f32⟩
  | 31 => ⟨S1x64x64x64, .f32⟩
  | 32 => ⟨S1x64x64x64, .f32⟩
  | 33 => ⟨S64x64x1x1, .f32⟩
  | 34 => ⟨S64x64, .f32⟩
  | 35 => ⟨S1x64x64x64, .f32⟩
  | 36 => ⟨S1x64x64x64, .f32⟩
  | 37 => ⟨S1x64x64x64, .f32⟩
  | 38 => ⟨S1x64x64x64, .f32⟩
  | 39 => ⟨S64x64x1x1, .f32⟩
  | 40 => ⟨S64x64, .f32⟩
  | 41 => ⟨S1x64x64x64, .f32⟩
  | 42 => ⟨S1x64x64x64, .f32⟩
  | 43 => ⟨S1x64x64x64, .f32⟩
  | 44 => ⟨S1x64x64x64, .f32⟩
  | 45 => ⟨S64x64x1x1, .f32⟩
  | 46 => ⟨S64x64, .f32⟩
  | 47 => ⟨S1x64x64x64, .f32⟩
  | 48 => ⟨S1x64x64x64, .f32⟩
  | 49 => ⟨S1x64x64x64, .f32⟩
  | 50 => ⟨S1x64x64x64, .f32⟩
  | 51 => ⟨S64x64x1x1, .f32⟩
  | 52 => ⟨S64x64, .f32⟩
  | 53 => ⟨S1x64x64x64, .f32⟩
  | 54 => ⟨S1x64x64x64, .f32⟩
  | 55 => ⟨S1x64x64x64, .f32⟩
  | 56 => ⟨S1x64x64x64, .f32⟩
  | 57 => ⟨S64x64x1x1, .f32⟩
  | 58 => ⟨S64x64, .f32⟩
  | 59 => ⟨S1x64x64x64, .f32⟩
  | 60 => ⟨S1x64x64x64, .f32⟩
  | 61 => ⟨S1x64x64x64, .f32⟩
  | 62 => ⟨S1x64x64x64, .f32⟩
  | 63 => ⟨S_, .f32⟩
  | 64 => ⟨S64, .f32⟩
  | 65 => ⟨S1x64x1x1, .f32⟩
  | 66 => ⟨S_, .f32⟩
  | 67 => ⟨S1x64x1x1, .f32⟩
  | 68 => ⟨S1x64x1x1, .f32⟩
  | 69 => ⟨S_, .i32⟩
  | 70 => ⟨S_, .f32⟩
  | 71 => ⟨S64, .f32⟩
  | 72 => ⟨S1x64x1x1, .f32⟩
  | 73 => ⟨S_, .f32⟩
  | 74 => ⟨S1x64x1x1, .f32⟩
  | 75 => ⟨S1x64x1x1, .f32⟩
  | 76 => ⟨S1x64x64x64, .f32⟩
  | 77 => ⟨S1x64x64x64, .f32⟩
  | 78 => ⟨S1x64x64x64, .f32⟩
  | 79 => ⟨S_, .f32⟩
  | 80 => ⟨S_, .f32⟩
  | 81 => ⟨S_, .f32⟩
  | 82 => ⟨S_, .f32⟩
  | 83 => ⟨S64, .f32⟩
  | 84 => ⟨S1x64x1x1, .f32⟩
  | 85 => ⟨S1x64x1x1, .f32⟩
  | 86 => ⟨S1x64x1x1, .f32⟩
  | 87 => ⟨S_, .f32⟩
  | 88 => ⟨S_, .i1⟩
  | 89 => ⟨S_, .f32⟩
  | 90 => ⟨S_, .f32⟩
  | 91 => ⟨S1x64x1x1, .f32⟩
  | 92 => ⟨S1x64x1x1, .f32⟩
  | 93 => ⟨S1x64x64x64, .f32⟩
  | 94 => ⟨S1x64x64x64, .f32⟩
  | 95 => ⟨S_, .f32⟩
  | 96 => ⟨S1x64x1x1, .f32⟩
  | 97 => ⟨S1x64x1x1, .f32⟩
  | 98 => ⟨S1x64x1x1, .f32⟩
  | 99 => ⟨S1x64x64x64, .f32⟩
  | 100 => ⟨S1x64x64x64, .f32⟩
  | 101 => ⟨S1x64x64x64, .f32⟩
  | 102 => ⟨S_, .f32⟩
  | 103 => ⟨S1x64x64x64, .f32⟩
  | 104 => ⟨S1x64x64x64, .f32⟩
  | 105 => ⟨S_, .i32⟩
  | 106 => ⟨S_, .f32⟩
  | 107 => ⟨S1x64x64x64, .f32⟩
  | 108 => ⟨S64x64, .f32⟩
  | 109 => ⟨S1x64x64x64, .f32⟩
  | 110 => ⟨S1x64x64x64, .f32⟩
  | 111 => ⟨S1x64x4096, .f32⟩
  | 112 => ⟨S1x4096x64, .f32⟩
  | 113 => ⟨S1x64x4096, .f32⟩
  | 114 => ⟨S1x4096x64, .f32⟩
  | 115 => ⟨S1x4096x64, .f32⟩
  | 116 => ⟨S_, .f32⟩
  | 117 => ⟨S1x4096, .f32⟩
  | 118 => ⟨S1x4096x1, .f32⟩
  | 119 => ⟨S1x4096x1, .f32⟩
  | 120 => ⟨S_, .f32⟩
  | 121 => ⟨S1x4096x1, .f32⟩
  | 122 => ⟨S1x4096x1, .f32⟩
  | 123 => ⟨S1x4096x64, .f32⟩
  | 124 => ⟨S1x4096x64, .f32⟩
  | 125 => ⟨S1x4096x64, .f32⟩
  | 126 => ⟨S_, .f32⟩
  | 127 => ⟨S1x4096, .f32⟩
  | _ => ⟨S1x64x64x3, .f32⟩

abbrev hbmTy0_4 (i : Nat) : BufTy := match i % 128 with
  | 0 => ⟨S1x4096x1, .f32⟩
  | 1 => ⟨S1x4096x1, .f32⟩
  | 2 => ⟨S_, .f32⟩
  | 3 => ⟨S1x4096x1, .f32⟩
  | 4 => ⟨S1x4096x1, .f32⟩
  | 5 => ⟨S1x4096x64, .f32⟩
  | 6 => ⟨S1x4096x64, .f32⟩
  | 7 => ⟨S_, .i32⟩
  | 8 => ⟨S36100, .i32⟩
  | 9 => ⟨S36100, .i1⟩
  | 10 => ⟨S_, .i32⟩
  | 11 => ⟨S36100, .i32⟩
  | 12 => ⟨S36100, .i32⟩
  | 13 => ⟨S36100, .i32⟩
  | 14 => ⟨S36100x1, .i32⟩
  | 15 => ⟨S1x36100x64, .f32⟩
  | 16 => ⟨S_, .i32⟩
  | 17 => ⟨S36100, .i32⟩
  | 18 => ⟨S36100, .i1⟩
  | 19 => ⟨S_, .i32⟩
  | 20 => ⟨S36100, .i32⟩
  | 21 => ⟨S36100, .i32⟩
  | 22 => ⟨S36100, .i32⟩
  | 23 => ⟨S36100x1, .i32⟩
  | 24 => ⟨S1x36100x64, .f32⟩
  | 25 => ⟨S1x36100x64, .f32⟩
  | 26 => ⟨S_, .f32⟩
  | 27 => ⟨S1x36100, .f32⟩
  | 28 => ⟨S36100, .f32⟩
  | 29 => ⟨S_, .i32⟩
  | 30 => ⟨S36100, .f32⟩
  | 31 => ⟨S36100, .i32⟩
  | 32 => ⟨S36100, .i32⟩
  | 33 => ⟨S_, .i32⟩
  | 34 => ⟨S1x4096x128, .f32⟩
  | 35 => ⟨S_, .i32⟩
  | 36 => ⟨S_, .i1⟩
  | 37 => ⟨S36100x1, .f32⟩
  | 38 => ⟨S4096x128, .f32⟩
  | 39 => ⟨S_, .i32⟩
  | 40 => ⟨S36100, .i32⟩
  | 41 => ⟨S36100, .i1⟩
  | 42 => ⟨S_, .i32⟩
  | 43 => ⟨S36100, .i32⟩
  | 44 => ⟨S36100, .i32⟩
  | 45 => ⟨S36100, .i32⟩
  | 46 => ⟨S36100x1, .i32⟩
  | 47 => ⟨S36100x128, .f32⟩
  | 48 => ⟨S36100x128, .f32⟩
  | 49 => ⟨S36100x128, .f32⟩
  | 50 => ⟨S_, .f32⟩
  | 51 => ⟨S4096x128, .f32⟩
  | 52 => ⟨S36100x1, .i32⟩
  | 53 => ⟨S4096x128, .f32⟩
  | 54 => ⟨S4096x128, .f32⟩
  | 55 => ⟨S_, .f32⟩
  | 56 => ⟨S4096, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x128, .f32⟩
  | 63 => ⟨S4096x128, .f32⟩
  | 64 => ⟨S1x4096x128, .f32⟩
  | 65 => ⟨S_, .i32⟩
  | 66 => ⟨S_, .i32⟩
  | 67 => ⟨S1x16x128, .f32⟩
  | 68 => ⟨S1x4096x16, .f32⟩
  | 69 => ⟨S_, .f32⟩
  | 70 => ⟨S1x4096, .f32⟩
  | 71 => ⟨S_, .f32⟩
  | 72 => ⟨S1x4096, .f32⟩
  | 73 => ⟨S1x4096, .f32⟩
  | 74 => ⟨S1x4096x1, .f32⟩
  | 75 => ⟨S1x4096x16, .f32⟩
  | 76 => ⟨S1x4096x16, .f32⟩
  | 77 => ⟨S1x4096x16, .f32⟩
  | 78 => ⟨S_, .f32⟩
  | 79 => ⟨S1x4096, .f32⟩
  | 80 => ⟨S1x4096x1, .f32⟩
  | 81 => ⟨S1x4096x16, .f32⟩
  | 82 => ⟨S1x4096x16, .f32⟩
  | 83 => ⟨S1x64x64x16, .f32⟩
  | 84 => ⟨S1x16x64x64, .f32⟩
  | _ => ⟨S1x64x64x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x64x64x3, .f32⟩

abbrev bufTy : (tb : Table) → Fin (tcTables nBuf tb) → BufTy
  | .hbm, ⟨i, _⟩ => hbmTy i
  | _, _ => ⟨S1x64x64x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_call1_cst : Ref sig .tc := ⟨.hbm, 75, rfl⟩
abbrev main_call1_v0 : Ref sig .tc := ⟨.hbm, 76, rfl⟩
abbrev main_v58 : Ref sig .tc := ⟨.hbm, 77, rfl⟩
abbrev main_c_0 : Ref sig .tc := ⟨.hbm, 78, rfl⟩
abbrev main_call2_v0 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_call3_cst : Ref sig .tc := ⟨.hbm, 87, rfl⟩
abbrev main_call3_v0 : Ref sig .tc := ⟨.hbm, 88, rfl⟩
abbrev main_v66 : Ref sig .tc := ⟨.hbm, 89, rfl⟩
abbrev main_c_1 : Ref sig .tc := ⟨.hbm, 90, rfl⟩
abbrev main_call4_v0 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_cst : Ref sig .tc := ⟨.hbm, 146, rfl⟩
abbrev main_v121 : Ref sig .tc := ⟨.hbm, 147, rfl⟩
abbrev main_v122 : Ref sig .tc := ⟨.hbm, 148, rfl⟩
abbrev main_cst_2 : Ref sig .tc := ⟨.hbm, 149, rfl⟩
abbrev main_v123 : Ref sig .tc := ⟨.hbm, 150, rfl⟩
abbrev main_v124 : Ref sig .tc := ⟨.hbm, 151, rfl⟩
abbrev main_c_3 : Ref sig .tc := ⟨.hbm, 152, rfl⟩
abbrev main_call5_cst : Ref sig .tc := ⟨.hbm, 153, rfl⟩
abbrev main_call5_v0 : Ref sig .tc := ⟨.hbm, 154, rfl⟩
abbrev main_call5_v1 : Ref sig .tc := ⟨.hbm, 155, rfl⟩
abbrev main_call5_cst_0 : Ref sig .tc := ⟨.hbm, 156, rfl⟩
abbrev main_call5_v2 : Ref sig .tc := ⟨.hbm, 157, rfl⟩
abbrev main_call5_v3 : Ref sig .tc := ⟨.hbm, 158, rfl⟩
abbrev main_call5_v4 : Ref sig .tc := ⟨.hbm, 159, rfl⟩
abbrev main_call5_v5 : Ref sig .tc := ⟨.hbm, 160, rfl⟩
abbrev main_call5_v6 : Ref sig .tc := ⟨.hbm, 161, rfl⟩
abbrev main_call5_v7 : Ref sig .tc := ⟨.hbm, 162, rfl⟩
abbrev main_call5_cst_1 : Ref sig .tc := ⟨.hbm, 163, rfl⟩
abbrev main_call5_v8 : Ref sig .tc := ⟨.hbm, 164, rfl⟩
abbrev main_call5_cst_2 : Ref sig .tc := ⟨.hbm, 165, rfl⟩
abbrev main_call5_v9 : Ref sig .tc := ⟨.hbm, 166, rfl⟩
abbrev main_call5_v10 : Ref sig .tc := ⟨.hbm, 167, rfl⟩
abbrev main_call5_v11 : Ref sig .tc := ⟨.hbm, 168, rfl⟩
abbrev main_call5_v12 : Ref sig .tc := ⟨.hbm, 169, rfl⟩
abbrev main_call5_cst_3 : Ref sig .tc := ⟨.hbm, 170, rfl⟩
abbrev main_call5_v13 : Ref sig .tc := ⟨.hbm, 171, rfl⟩
abbrev main_call5_cst_4 : Ref sig .tc := ⟨.hbm, 172, rfl⟩
abbrev main_call5_call0_v0 : Ref sig .tc := ⟨.hbm, 173, rfl⟩
abbrev main_call5_call0_v1 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_4 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_call6_cst : Ref sig .tc := ⟨.hbm, 184, rfl⟩
abbrev main_call6_v0 : Ref sig .tc := ⟨.hbm, 185, rfl⟩
abbrev main_v133 : Ref sig .tc := ⟨.hbm, 186, rfl⟩
abbrev main_c_5 : Ref sig .tc := ⟨.hbm, 187, rfl⟩
abbrev main_call7_v0 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_cst_6 : Ref sig .tc := ⟨.hbm, 243, rfl⟩
abbrev main_v188 : Ref sig .tc := ⟨.hbm, 244, rfl⟩
abbrev main_v189 : Ref sig .tc := ⟨.hbm, 245, rfl⟩
abbrev main_cst_7 : Ref sig .tc := ⟨.hbm, 246, rfl⟩
abbrev main_v190 : Ref sig .tc := ⟨.hbm, 247, rfl⟩
abbrev main_v191 : Ref sig .tc := ⟨.hbm, 248, rfl⟩
abbrev main_c_8 : Ref sig .tc := ⟨.hbm, 249, rfl⟩
abbrev main_call8_cst : Ref sig .tc := ⟨.hbm, 250, rfl⟩
abbrev main_call8_v0 : Ref sig .tc := ⟨.hbm, 251, rfl⟩
abbrev main_call8_v1 : Ref sig .tc := ⟨.hbm, 252, rfl⟩
abbrev main_call8_cst_0 : Ref sig .tc := ⟨.hbm, 253, rfl⟩
abbrev main_call8_v2 : Ref sig .tc := ⟨.hbm, 254, rfl⟩
abbrev main_call8_v3 : Ref sig .tc := ⟨.hbm, 255, rfl⟩
abbrev main_call8_v4 : Ref sig .tc := ⟨.hbm, 256, rfl⟩
abbrev main_call8_v5 : Ref sig .tc := ⟨.hbm, 257, rfl⟩
abbrev main_call8_v6 : Ref sig .tc := ⟨.hbm, 258, rfl⟩
abbrev main_call8_v7 : Ref sig .tc := ⟨.hbm, 259, rfl⟩
abbrev main_call8_cst_1 : Ref sig .tc := ⟨.hbm, 260, rfl⟩
abbrev main_call8_v8 : Ref sig .tc := ⟨.hbm, 261, rfl⟩
abbrev main_call8_cst_2 : Ref sig .tc := ⟨.hbm, 262, rfl⟩
abbrev main_call8_v9 : Ref sig .tc := ⟨.hbm, 263, rfl⟩
abbrev main_call8_v10 : Ref sig .tc := ⟨.hbm, 264, rfl⟩
abbrev main_call8_v11 : Ref sig .tc := ⟨.hbm, 265, rfl⟩
abbrev main_call8_v12 : Ref sig .tc := ⟨.hbm, 266, rfl⟩
abbrev main_call8_cst_3 : Ref sig .tc := ⟨.hbm, 267, rfl⟩
abbrev main_call8_v13 : Ref sig .tc := ⟨.hbm, 268, rfl⟩
abbrev main_call8_cst_4 : Ref sig .tc := ⟨.hbm, 269, rfl⟩
abbrev main_call8_call0_v0 : Ref sig .tc := ⟨.hbm, 270, rfl⟩
abbrev main_call8_call0_v1 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_cst_9 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_call9_cst : Ref sig .tc := ⟨.hbm, 282, rfl⟩
abbrev main_call9_v0 : Ref sig .tc := ⟨.hbm, 283, rfl⟩
abbrev main_v201 : Ref sig .tc := ⟨.hbm, 284, rfl⟩
abbrev main_c_10 : Ref sig .tc := ⟨.hbm, 285, rfl⟩
abbrev main_call10_v0 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_c_11 : Ref sig .tc := ⟨.hbm, 294, rfl⟩
abbrev main_call11_v0 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_v212 : Ref sig .tc := ⟨.hbm, 299, rfl⟩
abbrev main_v213 : Ref sig .tc := ⟨.hbm, 300, rfl⟩
abbrev main_v214 : Ref sig .tc := ⟨.hbm, 301, rfl⟩
abbrev main_v215 : Ref sig .tc := ⟨.hbm, 302, rfl⟩
abbrev main_v216 : Ref sig .tc := ⟨.hbm, 303, rfl⟩
abbrev main_v217 : Ref sig .tc := ⟨.hbm, 304, rfl⟩
abbrev main_v218 : Ref sig .tc := ⟨.hbm, 305, rfl⟩
abbrev main_v219 : Ref sig .tc := ⟨.hbm, 306, rfl⟩
abbrev main_v220 : Ref sig .tc := ⟨.hbm, 307, rfl⟩
abbrev main_v221 : Ref sig .tc := ⟨.hbm, 308, rfl⟩
abbrev main_v222 : Ref sig .tc := ⟨.hbm, 309, rfl⟩
abbrev main_v223 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_v250 : Ref sig .tc := ⟨.hbm, 337, rfl⟩
abbrev main_v251 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_v255 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_cst_12 : Ref sig .tc := ⟨.hbm, 350, rfl⟩
abbrev main_v263 : Ref sig .tc := ⟨.hbm, 351, rfl⟩
abbrev main_v264 : Ref sig .tc := ⟨.hbm, 352, rfl⟩
abbrev main_cst_13 : Ref sig .tc := ⟨.hbm, 353, rfl⟩
abbrev main_v265 : Ref sig .tc := ⟨.hbm, 354, rfl⟩
abbrev main_v266 : Ref sig .tc := ⟨.hbm, 355, rfl⟩
abbrev main_c_14 : Ref sig .tc := ⟨.hbm, 356, rfl⟩
abbrev main_call12_cst : Ref sig .tc := ⟨.hbm, 357, rfl⟩
abbrev main_call12_v0 : Ref sig .tc := ⟨.hbm, 358, rfl⟩
abbrev main_call12_v1 : Ref sig .tc := ⟨.hbm, 359, rfl⟩
abbrev main_call12_cst_0 : Ref sig .tc := ⟨.hbm, 360, rfl⟩
abbrev main_call12_v2 : Ref sig .tc := ⟨.hbm, 361, rfl⟩
abbrev main_call12_v3 : Ref sig .tc := ⟨.hbm, 362, rfl⟩
abbrev main_call12_v4 : Ref sig .tc := ⟨.hbm, 363, rfl⟩
abbrev main_call12_v5 : Ref sig .tc := ⟨.hbm, 364, rfl⟩
abbrev main_call12_v6 : Ref sig .tc := ⟨.hbm, 365, rfl⟩
abbrev main_call12_v7 : Ref sig .tc := ⟨.hbm, 366, rfl⟩
abbrev main_call12_cst_1 : Ref sig .tc := ⟨.hbm, 367, rfl⟩
abbrev main_call12_v8 : Ref sig .tc := ⟨.hbm, 368, rfl⟩
abbrev main_call12_cst_2 : Ref sig .tc := ⟨.hbm, 369, rfl⟩
abbrev main_call12_v9 : Ref sig .tc := ⟨.hbm, 370, rfl⟩
abbrev main_call12_v10 : Ref sig .tc := ⟨.hbm, 371, rfl⟩
abbrev main_call12_v11 : Ref sig .tc := ⟨.hbm, 372, rfl⟩
abbrev main_call12_v12 : Ref sig .tc := ⟨.hbm, 373, rfl⟩
abbrev main_call12_cst_3 : Ref sig .tc := ⟨.hbm, 374, rfl⟩
abbrev main_call12_v13 : Ref sig .tc := ⟨.hbm, 375, rfl⟩
abbrev main_call12_cst_4 : Ref sig .tc := ⟨.hbm, 376, rfl⟩
abbrev main_call12_call0_v0 : Ref sig .tc := ⟨.hbm, 377, rfl⟩
abbrev main_call12_call0_v1 : Ref sig .tc := ⟨.hbm, 378, rfl⟩
abbrev main_v267 : Ref sig .tc := ⟨.hbm, 379, rfl⟩
abbrev main_v268 : Ref sig .tc := ⟨.hbm, 380, rfl⟩
abbrev main_v269 : Ref sig .tc := ⟨.hbm, 381, rfl⟩
abbrev main_cst_15 : Ref sig .tc := ⟨.hbm, 382, rfl⟩
abbrev main_v270 : Ref sig .tc := ⟨.hbm, 383, rfl⟩
abbrev main_v271 : Ref sig .tc := ⟨.hbm, 384, rfl⟩
abbrev main_v272 : Ref sig .tc := ⟨.hbm, 385, rfl⟩
abbrev main_v273 : Ref sig .tc := ⟨.hbm, 386, rfl⟩
abbrev main_v274 : Ref sig .tc := ⟨.hbm, 387, rfl⟩
abbrev main_call13_cst : Ref sig .tc := ⟨.hbm, 388, rfl⟩
abbrev main_call13_v0 : Ref sig .tc := ⟨.hbm, 389, rfl⟩
abbrev main_v275 : Ref sig .tc := ⟨.hbm, 390, rfl⟩
abbrev main_c_16 : Ref sig .tc := ⟨.hbm, 391, rfl⟩
abbrev main_call14_v0 : Ref sig .tc := ⟨.hbm, 392, rfl⟩
abbrev main_v276 : Ref sig .tc := ⟨.hbm, 393, rfl⟩
abbrev main_v277 : Ref sig .tc := ⟨.hbm, 394, rfl⟩
abbrev main_v278 : Ref sig .tc := ⟨.hbm, 395, rfl⟩
abbrev main_v279 : Ref sig .tc := ⟨.hbm, 396, rfl⟩
abbrev main_v280 : Ref sig .tc := ⟨.hbm, 397, rfl⟩
abbrev main_v281 : Ref sig .tc := ⟨.hbm, 398, rfl⟩
abbrev main_v282 : Ref sig .tc := ⟨.hbm, 399, rfl⟩
abbrev main_v283 : Ref sig .tc := ⟨.hbm, 400, rfl⟩
abbrev main_v284 : Ref sig .tc := ⟨.hbm, 401, rfl⟩
abbrev main_v285 : Ref sig .tc := ⟨.hbm, 402, rfl⟩
abbrev main_v286 : Ref sig .tc := ⟨.hbm, 403, rfl⟩
abbrev main_v287 : Ref sig .tc := ⟨.hbm, 404, rfl⟩
abbrev main_v288 : Ref sig .tc := ⟨.hbm, 405, rfl⟩
abbrev main_v289 : Ref sig .tc := ⟨.hbm, 406, rfl⟩
abbrev main_v290 : Ref sig .tc := ⟨.hbm, 407, rfl⟩
abbrev main_v291 : Ref sig .tc := ⟨.hbm, 408, rfl⟩
abbrev main_v292 : Ref sig .tc := ⟨.hbm, 409, rfl⟩
abbrev main_v293 : Ref sig .tc := ⟨.hbm, 410, rfl⟩
abbrev main_v294 : Ref sig .tc := ⟨.hbm, 411, rfl⟩
abbrev main_v295 : Ref sig .tc := ⟨.hbm, 412, rfl⟩
abbrev main_v296 : Ref sig .tc := ⟨.hbm, 413, rfl⟩
abbrev main_v297 : Ref sig .tc := ⟨.hbm, 414, rfl⟩
abbrev main_v298 : Ref sig .tc := ⟨.hbm, 415, rfl⟩
abbrev main_v299 : Ref sig .tc := ⟨.hbm, 416, rfl⟩
abbrev main_v300 : Ref sig .tc := ⟨.hbm, 417, rfl⟩
abbrev main_v301 : Ref sig .tc := ⟨.hbm, 418, rfl⟩
abbrev main_v302 : Ref sig .tc := ⟨.hbm, 419, rfl⟩
abbrev main_v303 : Ref sig .tc := ⟨.hbm, 420, rfl⟩
abbrev main_v304 : Ref sig .tc := ⟨.hbm, 421, rfl⟩
abbrev main_v305 : Ref sig .tc := ⟨.hbm, 422, rfl⟩
abbrev main_v306 : Ref sig .tc := ⟨.hbm, 423, rfl⟩
abbrev main_v307 : Ref sig .tc := ⟨.hbm, 424, rfl⟩
abbrev main_v308 : Ref sig .tc := ⟨.hbm, 425, rfl⟩
abbrev main_v309 : Ref sig .tc := ⟨.hbm, 426, rfl⟩
abbrev main_v310 : Ref sig .tc := ⟨.hbm, 427, rfl⟩
abbrev main_v311 : Ref sig .tc := ⟨.hbm, 428, rfl⟩
abbrev main_v312 : Ref sig .tc := ⟨.hbm, 429, rfl⟩
abbrev main_v313 : Ref sig .tc := ⟨.hbm, 430, rfl⟩
abbrev main_v314 : Ref sig .tc := ⟨.hbm, 431, rfl⟩
abbrev main_v315 : Ref sig .tc := ⟨.hbm, 432, rfl⟩
abbrev main_v316 : Ref sig .tc := ⟨.hbm, 433, rfl⟩
abbrev main_v317 : Ref sig .tc := ⟨.hbm, 434, rfl⟩
abbrev main_v318 : Ref sig .tc := ⟨.hbm, 435, rfl⟩
abbrev main_v319 : Ref sig .tc := ⟨.hbm, 436, rfl⟩
abbrev main_v320 : Ref sig .tc := ⟨.hbm, 437, rfl⟩
abbrev main_v321 : Ref sig .tc := ⟨.hbm, 438, rfl⟩
abbrev main_v322 : Ref sig .tc := ⟨.hbm, 439, rfl⟩
abbrev main_v323 : Ref sig .tc := ⟨.hbm, 440, rfl⟩
abbrev main_v324 : Ref sig .tc := ⟨.hbm, 441, rfl⟩
abbrev main_v325 : Ref sig .tc := ⟨.hbm, 442, rfl⟩
abbrev main_v326 : Ref sig .tc := ⟨.hbm, 443, rfl⟩
abbrev main_v327 : Ref sig .tc := ⟨.hbm, 444, rfl⟩
abbrev main_v328 : Ref sig .tc := ⟨.hbm, 445, rfl⟩
abbrev main_v329 : Ref sig .tc := ⟨.hbm, 446, rfl⟩
abbrev main_cst_17 : Ref sig .tc := ⟨.hbm, 447, rfl⟩
abbrev main_v330 : Ref sig .tc := ⟨.hbm, 448, rfl⟩
abbrev main_v331 : Ref sig .tc := ⟨.hbm, 449, rfl⟩
abbrev main_cst_18 : Ref sig .tc := ⟨.hbm, 450, rfl⟩
abbrev main_v332 : Ref sig .tc := ⟨.hbm, 451, rfl⟩
abbrev main_v333 : Ref sig .tc := ⟨.hbm, 452, rfl⟩
abbrev main_c_19 : Ref sig .tc := ⟨.hbm, 453, rfl⟩
abbrev main_call15_cst : Ref sig .tc := ⟨.hbm, 454, rfl⟩
abbrev main_call15_v0 : Ref sig .tc := ⟨.hbm, 455, rfl⟩
abbrev main_call15_v1 : Ref sig .tc := ⟨.hbm, 456, rfl⟩
abbrev main_call15_cst_0 : Ref sig .tc := ⟨.hbm, 457, rfl⟩
abbrev main_call15_v2 : Ref sig .tc := ⟨.hbm, 458, rfl⟩
abbrev main_call15_v3 : Ref sig .tc := ⟨.hbm, 459, rfl⟩
abbrev main_call15_v4 : Ref sig .tc := ⟨.hbm, 460, rfl⟩
abbrev main_call15_v5 : Ref sig .tc := ⟨.hbm, 461, rfl⟩
abbrev main_call15_v6 : Ref sig .tc := ⟨.hbm, 462, rfl⟩
abbrev main_call15_v7 : Ref sig .tc := ⟨.hbm, 463, rfl⟩
abbrev main_call15_cst_1 : Ref sig .tc := ⟨.hbm, 464, rfl⟩
abbrev main_call15_v8 : Ref sig .tc := ⟨.hbm, 465, rfl⟩
abbrev main_call15_cst_2 : Ref sig .tc := ⟨.hbm, 466, rfl⟩
abbrev main_call15_v9 : Ref sig .tc := ⟨.hbm, 467, rfl⟩
abbrev main_call15_v10 : Ref sig .tc := ⟨.hbm, 468, rfl⟩
abbrev main_call15_v11 : Ref sig .tc := ⟨.hbm, 469, rfl⟩
abbrev main_call15_v12 : Ref sig .tc := ⟨.hbm, 470, rfl⟩
abbrev main_call15_cst_3 : Ref sig .tc := ⟨.hbm, 471, rfl⟩
abbrev main_call15_v13 : Ref sig .tc := ⟨.hbm, 472, rfl⟩
abbrev main_call15_cst_4 : Ref sig .tc := ⟨.hbm, 473, rfl⟩
abbrev main_call15_call0_v0 : Ref sig .tc := ⟨.hbm, 474, rfl⟩
abbrev main_call15_call0_v1 : Ref sig .tc := ⟨.hbm, 475, rfl⟩
abbrev main_v334 : Ref sig .tc := ⟨.hbm, 476, rfl⟩
abbrev main_v335 : Ref sig .tc := ⟨.hbm, 477, rfl⟩
abbrev main_v336 : Ref sig .tc := ⟨.hbm, 478, rfl⟩
abbrev main_cst_20 : Ref sig .tc := ⟨.hbm, 479, rfl⟩
abbrev main_v337 : Ref sig .tc := ⟨.hbm, 480, rfl⟩
abbrev main_v338 : Ref sig .tc := ⟨.hbm, 481, rfl⟩
abbrev main_v339 : Ref sig .tc := ⟨.hbm, 482, rfl⟩
abbrev main_v340 : Ref sig .tc := ⟨.hbm, 483, rfl⟩
abbrev main_v341 : Ref sig .tc := ⟨.hbm, 484, rfl⟩
abbrev main_v342 : Ref sig .tc := ⟨.hbm, 485, rfl⟩
abbrev main_call16_cst : Ref sig .tc := ⟨.hbm, 486, rfl⟩
abbrev main_call16_v0 : Ref sig .tc := ⟨.hbm, 487, rfl⟩
abbrev main_v343 : Ref sig .tc := ⟨.hbm, 488, rfl⟩
abbrev main_c_21 : Ref sig .tc := ⟨.hbm, 489, rfl⟩
abbrev main_call17_v0 : Ref sig .tc := ⟨.hbm, 490, rfl⟩
abbrev main_v344 : Ref sig .tc := ⟨.hbm, 491, rfl⟩
abbrev main_v345 : Ref sig .tc := ⟨.hbm, 492, rfl⟩
abbrev main_v346 : Ref sig .tc := ⟨.hbm, 493, rfl⟩
abbrev main_v347 : Ref sig .tc := ⟨.hbm, 494, rfl⟩
abbrev main_v348 : Ref sig .tc := ⟨.hbm, 495, rfl⟩
abbrev main_v349 : Ref sig .tc := ⟨.hbm, 496, rfl⟩
abbrev main_v350 : Ref sig .tc := ⟨.hbm, 497, rfl⟩
abbrev main_v351 : Ref sig .tc := ⟨.hbm, 498, rfl⟩
abbrev main_call18_v0 : Ref sig .tc := ⟨.hbm, 499, rfl⟩
abbrev main_call18_cst : Ref sig .tc := ⟨.hbm, 500, rfl⟩
abbrev main_call18_v1 : Ref sig .tc := ⟨.hbm, 501, rfl⟩
abbrev main_call18_v2 : Ref sig .tc := ⟨.hbm, 502, rfl⟩
abbrev main_v352 : Ref sig .tc := ⟨.hbm, 503, rfl⟩
abbrev main_cst_22 : Ref sig .tc := ⟨.hbm, 504, rfl⟩
abbrev main_v353 : Ref sig .tc := ⟨.hbm, 505, rfl⟩
abbrev main_v354 : Ref sig .tc := ⟨.hbm, 506, rfl⟩
abbrev main_v355 : Ref sig .tc := ⟨.hbm, 507, rfl⟩
abbrev main_v356 : Ref sig .tc := ⟨.hbm, 508, rfl⟩
abbrev main_call19_v0 : Ref sig .tc := ⟨.hbm, 509, rfl⟩
abbrev main_call19_cst : Ref sig .tc := ⟨.hbm, 510, rfl⟩
abbrev main_call19_v1 : Ref sig .tc := ⟨.hbm, 511, rfl⟩
abbrev main_call19_v2 : Ref sig .tc := ⟨.hbm, 512, rfl⟩
abbrev main_v357 : Ref sig .tc := ⟨.hbm, 513, rfl⟩
abbrev main_cst_23 : Ref sig .tc := ⟨.hbm, 514, rfl⟩
abbrev main_v358 : Ref sig .tc := ⟨.hbm, 515, rfl⟩
abbrev main_v359 : Ref sig .tc := ⟨.hbm, 516, rfl⟩
abbrev main_v360 : Ref sig .tc := ⟨.hbm, 517, rfl⟩
abbrev main_v361 : Ref sig .tc := ⟨.hbm, 518, rfl⟩
abbrev main_c_24 : Ref sig .tc := ⟨.hbm, 519, rfl⟩
abbrev main_v362 : Ref sig .tc := ⟨.hbm, 520, rfl⟩
abbrev main_v363 : Ref sig .tc := ⟨.hbm, 521, rfl⟩
abbrev main_c_25 : Ref sig .tc := ⟨.hbm, 522, rfl⟩
abbrev main_v364 : Ref sig .tc := ⟨.hbm, 523, rfl⟩
abbrev main_v365 : Ref sig .tc := ⟨.hbm, 524, rfl⟩
abbrev main_v366 : Ref sig .tc := ⟨.hbm, 525, rfl⟩
abbrev main_v367 : Ref sig .tc := ⟨.hbm, 526, rfl⟩
abbrev main_v368 : Ref sig .tc := ⟨.hbm, 527, rfl⟩
abbrev main_c_26 : Ref sig .tc := ⟨.hbm, 528, rfl⟩
abbrev main_v369 : Ref sig .tc := ⟨.hbm, 529, rfl⟩
abbrev main_v370 : Ref sig .tc := ⟨.hbm, 530, rfl⟩
abbrev main_c_27 : Ref sig .tc := ⟨.hbm, 531, rfl⟩
abbrev main_v371 : Ref sig .tc := ⟨.hbm, 532, rfl⟩
abbrev main_v372 : Ref sig .tc := ⟨.hbm, 533, rfl⟩
abbrev main_v373 : Ref sig .tc := ⟨.hbm, 534, rfl⟩
abbrev main_v374 : Ref sig .tc := ⟨.hbm, 535, rfl⟩
abbrev main_v375 : Ref sig .tc := ⟨.hbm, 536, rfl⟩
abbrev main_v376 : Ref sig .tc := ⟨.hbm, 537, rfl⟩
abbrev main_cst_28 : Ref sig .tc := ⟨.hbm, 538, rfl⟩
abbrev main_v377 : Ref sig .tc := ⟨.hbm, 539, rfl⟩
abbrev main_v378 : Ref sig .tc := ⟨.hbm, 540, rfl⟩
abbrev main_c_29 : Ref sig .tc := ⟨.hbm, 541, rfl⟩
abbrev main_v379_0 : Ref sig .tc := ⟨.hbm, 542, rfl⟩
abbrev main_v379_1 : Ref sig .tc := ⟨.hbm, 543, rfl⟩
abbrev main_v379_2 : Ref sig .tc := ⟨.hbm, 544, rfl⟩
abbrev main_v379_3 : Ref sig .tc := ⟨.hbm, 545, rfl⟩
abbrev main_v379_4 : Ref sig .tc := ⟨.hbm, 546, rfl⟩
abbrev main_while0c_c_37 : Ref sig .tc := ⟨.hbm, 547, rfl⟩
abbrev main_while0c_v395 : Ref sig .tc := ⟨.hbm, 548, rfl⟩
abbrev main_while0b_v395 : Ref sig .tc := ⟨.hbm, 549, rfl⟩
abbrev main_while0b_v396 : Ref sig .tc := ⟨.hbm, 550, rfl⟩
abbrev main_while0b_c_37 : Ref sig .tc := ⟨.hbm, 551, rfl⟩
abbrev main_while0b_v397 : Ref sig .tc := ⟨.hbm, 552, rfl⟩
abbrev main_while0b_v398 : Ref sig .tc := ⟨.hbm, 553, rfl⟩
abbrev main_while0b_c_38 : Ref sig .tc := ⟨.hbm, 554, rfl⟩
abbrev main_while0b_v399 : Ref sig .tc := ⟨.hbm, 555, rfl⟩
abbrev main_while0b_v400 : Ref sig .tc := ⟨.hbm, 556, rfl⟩
abbrev main_while0b_v401 : Ref sig .tc := ⟨.hbm, 557, rfl⟩
abbrev main_while0b_v402 : Ref sig .tc := ⟨.hbm, 558, rfl⟩
abbrev main_while0b_v403 : Ref sig .tc := ⟨.hbm, 559, rfl⟩
abbrev main_while0b_v404 : Ref sig .tc := ⟨.hbm, 560, rfl⟩
abbrev main_while0b_v405 : Ref sig .tc := ⟨.hbm, 561, rfl⟩
abbrev main_while0b_cst_39 : Ref sig .tc := ⟨.hbm, 562, rfl⟩
abbrev main_while0b_v406 : Ref sig .tc := ⟨.hbm, 563, rfl⟩
abbrev main_while0b_v407 : Ref sig .tc := ⟨.hbm, 564, rfl⟩
abbrev main_while0b_v408 : Ref sig .tc := ⟨.hbm, 565, rfl⟩
abbrev main_while0b_call20_v0 : Ref sig .tc := ⟨.hbm, 566, rfl⟩
abbrev main_while0b_call20_cst : Ref sig .tc := ⟨.hbm, 567, rfl⟩
abbrev main_while0b_call20_v1 : Ref sig .tc := ⟨.hbm, 568, rfl⟩
abbrev main_while0b_call20_v2 : Ref sig .tc := ⟨.hbm, 569, rfl⟩
abbrev main_while0b_v409 : Ref sig .tc := ⟨.hbm, 570, rfl⟩
abbrev main_while0b_cst_40 : Ref sig .tc := ⟨.hbm, 571, rfl⟩
abbrev main_while0b_v410 : Ref sig .tc := ⟨.hbm, 572, rfl⟩
abbrev main_while0b_v411 : Ref sig .tc := ⟨.hbm, 573, rfl⟩
abbrev main_while0b_v412 : Ref sig .tc := ⟨.hbm, 574, rfl⟩
abbrev main_while0b_v413 : Ref sig .tc := ⟨.hbm, 575, rfl⟩
abbrev main_while0b_v414 : Ref sig .tc := ⟨.hbm, 576, rfl⟩
abbrev main_while0b_c_41 : Ref sig .tc := ⟨.hbm, 577, rfl⟩
abbrev main_while0b_v415 : Ref sig .tc := ⟨.hbm, 578, rfl⟩
abbrev main_v380 : Ref sig .tc := ⟨.hbm, 579, rfl⟩
abbrev main_v381 : Ref sig .tc := ⟨.hbm, 580, rfl⟩
abbrev main_cst_30 : Ref sig .tc := ⟨.hbm, 581, rfl⟩
abbrev main_v382 : Ref sig .tc := ⟨.hbm, 582, rfl⟩
abbrev main_cst_31 : Ref sig .tc := ⟨.hbm, 583, rfl⟩
abbrev main_v383 : Ref sig .tc := ⟨.hbm, 584, rfl⟩
abbrev main_v384 : Ref sig .tc := ⟨.hbm, 585, rfl⟩
abbrev main_v385 : Ref sig .tc := ⟨.hbm, 586, rfl⟩
abbrev main_v386 : Ref sig .tc := ⟨.hbm, 587, rfl⟩
abbrev main_v387 : Ref sig .tc := ⟨.hbm, 588, rfl⟩
abbrev main_v388 : Ref sig .tc := ⟨.hbm, 589, rfl⟩
abbrev main_cst_32 : Ref sig .tc := ⟨.hbm, 590, rfl⟩
abbrev main_v389 : Ref sig .tc := ⟨.hbm, 591, rfl⟩
abbrev main_v390 : Ref sig .tc := ⟨.hbm, 592, rfl⟩
abbrev main_v391 : Ref sig .tc := ⟨.hbm, 593, rfl⟩
abbrev main_v392 : Ref sig .tc := ⟨.hbm, 594, rfl⟩
abbrev main_v393 : Ref sig .tc := ⟨.hbm, 595, rfl⟩
abbrev main_v394 : Ref sig .tc := ⟨.hbm, 596, rfl⟩

abbrev nD : Nat := 1
abbrev τ : Topo := Topo.v7x

variable {F : FTy → Type} [FloatOps F]

abbrev main_while0_count : Scf.Loop 32 := ⟨0#32, 32#32, 1#32⟩
-- ==== Proof.Scene.lean ====
/- The mathematics of the network on a 64 by 64 grid of pixels, written once: both programs are read as these
   functions. An image is a function of the pixel (numbered row by row, 0 to 4095) and the channel. -/
module

public import Idealize.ShloMosaic.Lib.Pointwise

@[expose] public section

noncomputable section

namespace Cert.Scene

open Idealize.ShloMosaic

/-- An image of 64 by 64 pixels with `C` channels, over the extended reals. -/
abbrev Img (C : ℕ) := Fin 4096 → Fin C → EReal

/-- Pixel `p` has a neighbour at the place `(a, b)` of the 3 by 3 window (the centre is `(1, 1)`). -/
def Near (a b p : ℕ) : Prop := 1 ≤ p / 64 + a ∧ p / 64 + a ≤ 64 ∧ 1 ≤ p % 64 + b ∧ p % 64 + b ≤ 64

instance (a b p : ℕ) : Decidable (Near a b p) := by unfold Near; infer_instance

theorem Near.lt {a b p : ℕ} (h : Near a b p) : p + 64 * a + b - 65 < 4096 := by
  unfold Near at h; omega

/-- The image seen through the place `(a, b)` of the window: the neighbour's value, or zero outside the grid. -/
def tap {C : ℕ} (a b : ℕ) (A : Img C) : Img C := fun p c =>
  if h : Near a b p then A ⟨p + 64 * a + b - 65, h.lt⟩ c else 0

/-- The 3 by 3 convolution with zeros outside the grid. -/
def conv3 {C O : ℕ} (A : Img C) (W : Fin O → Fin C → Fin 3 → Fin 3 → EReal) : Img O := fun p o =>
  ∑ a : Fin 3, ∑ b : Fin 3, ∑ c : Fin C, tap a b A p c * W o c a b

/-- The convolution with a window of one pixel. -/
def conv1 {C O : ℕ} (A : Img C) (W : Fin O → Fin C → EReal) : Img O := fun p o => ∑ c : Fin C, A p c * W o c

/-- A value per channel added to every pixel. -/
def bias {C : ℕ} (A : Img C) (b : Fin C → EReal) : Img C := fun p c => A p c + b c

/-- The positive part. -/
def relu {C : ℕ} (A : Img C) : Img C := fun p c => max (A p c) 0

/-- The number of pixels, 4096, as the programs' constant. -/
def npix : EReal := Ideal.ofBits .f32 0x45800000#32

/-- The constant 1e-5 of the normalisation over pixels. -/
def eps5 : EReal := Ideal.ofBits .f32 0x3727C5AC#32

/-- The constant 1e-8 of the normalisation over channels. -/
def eps8 : EReal := Ideal.ofBits .f32 0x322BCC77#32

/-- A channel's mean over the pixels. -/
def mean {C : ℕ} (A : Img C) (c : Fin C) : EReal := Ideal.div (∑ p, A p c) npix

/-- A channel's variance over the pixels. -/
def var {C : ℕ} (A : Img C) (c : Fin C) : EReal :=
  Ideal.div (∑ p, (A p c - mean A c) * (A p c - mean A c)) npix

/-- Every channel shifted and scaled to mean zero and variance one. -/
def bnorm {C : ℕ} (A : Img C) : Img C := fun p c => (A p c - mean A c) * Ideal.rsqrt (var A c + eps5)

/-- The residual block. -/
def resblock (A : Img 64) (W₁ W₂ : Fin 64 → Fin 64 → Fin 3 → Fin 3 → EReal) : Img 64 :=
  relu fun p c => A p c + bnorm (conv3 (relu (bnorm (conv3 A W₁))) W₂) p c

/-- The Euclidean length of a pixel's channels, plus 1e-8. -/
def len {C : ℕ} (A : Img C) (p : Fin 4096) : EReal := Ideal.sqrt (∑ c, A p c * A p c) + eps8

/-- Every pixel's channels divided by their length. -/
def unit {C : ℕ} (A : Img C) : Img C := fun p c => Ideal.div (A p c) (len A p)

/-- The affinity of a pixel and its neighbour at `(a, b)`: zero where there is none. -/
def plane (Q K : Img 64) (a b : ℕ) (p : Fin 4096) : EReal := ∑ c, Q p c * tap a b K p c

/-- One round of messages: every pixel gathers its neighbours' states, weighted by the affinities. -/
def gatherAll (Q K : Img 64) (S : Img 128) : Img 128 := fun p c =>
  ∑ a : Fin 3, ∑ b : Fin 3, plane Q K a b p * tap a b S p c

/-- One round: messages, then every pixel's state divided by its length. -/
def round (Q K : Img 64) (S : Img 128) : Img 128 := unit (gatherAll Q K S)

/-- Agent `m` is pixel `273 m`. -/
def agent (m : Fin 16) : Fin 4096 := ⟨273 * m, by omega⟩

/-- How well pixel `p` fits agent `m`. -/
def logits (S : Img 128) : Img 16 := fun p m => ∑ c, S p c * S (agent m) c

/-- The greatest value of a pixel's channels. -/
def top {C : ℕ} (L : Img C) (p : Fin 4096) : EReal := Finset.univ.fold max ⊥ fun m => L p m

/-- The softmax over the channels. -/
def softmax {C : ℕ} (L : Img C) : Img C := fun p m =>
  Ideal.div (Ideal.exp (L p m - top L p)) (∑ k, Ideal.exp (L p k - top L p))

/-- The whole network: features, two branches, unit vectors, 32 rounds, softmax against the agents. -/
def head (X : Img 3) (Wc1 : Fin 64 → Fin 3 → Fin 3 → Fin 3 → EReal) (bc1 : Fin 64 → EReal)
    (Wc2 : Fin 64 → Fin 64 → EReal) (bc2 : Fin 64 → EReal) : Img 64 :=
  relu (bias (conv1 (relu (bias (conv3 X Wc1) bc1)) Wc2) bc2)

/-- The result from the features `h`, the two branches' weights and the initial state. -/
def result (h : Img 64) (Wk1 Wk2 : Fin 64 → Fin 64 → Fin 3 → Fin 3 → EReal) (Wk3 : Fin 64 → Fin 64 → EReal)
    (bk3 : Fin 64 → EReal) (Wq1 Wq2 : Fin 64 → Fin 64 → Fin 3 → Fin 3 → EReal) (Wq3 : Fin 64 → Fin 64 → EReal)
    (S : Img 128) : Img 16 :=
  softmax (logits ((round (unit (conv1 (resblock h Wq1 Wq2) Wq3))
    (unit (bias (conv1 (resblock h Wk1 Wk2) Wk3) bk3)))^[32] S))

/-! ### Small facts -/

theorem eps8_pos : 0 < eps8 := by
  unfold eps8
  have : Ideal.ofBits .f32 0x322BCC77#32 = ((((2 ^ 23 + 2870391 : ℕ) : ℝ) * (2 : ℝ) ^ (-50 : ℤ) : ℝ) : EReal) := by
    simp [Ideal.ofBits, Ideal.ieee]
  rw [this, EReal.coe_pos]
  positivity

/-- A square root plus 1e-8 is never zero. -/
theorem sqrt_add_ne_zero (x : EReal) : Ideal.sqrt x + eps8 ≠ 0 := by
  have h8 := eps8_pos
  induction x using EReal.rec with
  | bot =>
    have : Ideal.sqrt ⊥ = ⊥ := rfl
    rw [this, EReal.bot_add]; simp
  | top =>
    have : Ideal.sqrt ⊤ = ⊤ := rfl
    rw [this, EReal.top_add_of_ne_bot (ne_bot_of_gt h8)]; simp
  | coe r =>
    have h : Ideal.sqrt (r : EReal) = if r < 0 then ⊥ else ((Real.sqrt r : ℝ) : EReal) := rfl
    rw [h]
    split
    · simp
    · have h0 : (0 : EReal) ≤ ((Real.sqrt r : ℝ) : EReal) := by exact_mod_cast Real.sqrt_nonneg r
      exact (lt_of_lt_of_le h8 (by simpa using add_le_add_left h0 eps8)).ne'

/-- Multiplying by the reciprocal is dividing, where the divisor is not zero. -/
theorem mul_recip (x : EReal) {y : EReal} (h : y ≠ 0) : x * Ideal.div 1 y = Ideal.div x y := by
  unfold Ideal.div
  rw [if_neg h, if_neg h, one_mul]

/-- Nine terms taken column by column are the same sum as taken row by row. -/
theorem sum_nine (f : Fin 3 → Fin 3 → EReal) :
    ∑ a : Fin 3, ∑ b : Fin 3, f a b
      = f 0 0 + f 1 0 + f 2 0 + f 0 1 + f 1 1 + f 2 1 + f 0 2 + f 1 2 + f 2 2 := by
  simp only [Fin.sum_univ_three]
  abel

/-- Nine terms row by row, written out. -/
theorem sum_nine' (f : Fin 3 → Fin 3 → EReal) :
    ∑ a : Fin 3, ∑ b : Fin 3, f a b
      = f 0 0 + f 0 1 + f 0 2 + f 1 0 + f 1 1 + f 1 2 + f 2 0 + f 2 1 + f 2 2 := by
  simp only [Fin.sum_univ_three]
  abel

/-- Where a pixel has no neighbour at `(a, b)`, their affinity is zero. -/
theorem plane_far {Q K : Img 64} {a b : ℕ} {p : Fin 4096} (h : ¬ Near a b p) : plane Q K a b p = 0 := by
  unfold plane tap
  simp [h]

end Cert.Scene

end
-- ==== Proof.KernelMasks.lean ====
/- The kernel's nine masks: at every pixel the mask of a displacement is one where the pixel has that neighbour
   and zero where it has not. -/
module

public import proofs.«01_k».proof.Proof.Gen.KernelIdeal.Frame
public import proofs.«01_k».proof.Proof.Scene

@[expose] public section

set_option maxRecDepth 16384

noncomputable section

namespace Cert.KV

open Idealize.ShloMosaic Cert.KernelIdeal Cert.KernelIdeal.Gen Cert.Scene

/-- The kernel's row numbers. -/
abbrev rowW : IVec S4096x1 32 := kernelRun0_A.sl.v24
/-- The kernel's column numbers. -/
abbrev colW : IVec S4096x1 32 := kernelRun0_A.sl.v27

theorem rowW_at (p : Fin 4096) : rowW (ix2 p 0) = BitVec.ofNat 32 (p.val / 64) := by
  have h : rowW = k0_pay2 := rfl
  rw [h]
  pointwise [k0_pay2]
  revert p
  decide +kernel

theorem colW_at (p : Fin 4096) : colW (ix2 p 0) = BitVec.ofNat 32 (p.val % 64) := by
  have h : colW = subi kernelRun0_A.sl.v0 (muli rowW kernelRun0_A.sl.v1) := rfl
  rw [h]
  pointwise [kernelRun0_A.sl.v0, kernelRun0_A.sl.v1, rowW_at]
  revert p
  decide +kernel

/-- The masks as the kernel prints them, by the place in the window. -/
def mask : ℕ → ℕ → FVec Ideal S4096x1 .f32
  | 0, 0 => kernelRun0_A.sl.r
  | 0, 1 => k0_pay9 rowW colW
  | 0, 2 => kernelRun0_A.sl.r_1
  | 1, 0 => k0_pay13 rowW colW
  | 1, 1 => kernelRun0_A.sl.r_2
  | 1, 2 => k0_pay16 rowW colW
  | 2, 0 => k0_pay17 rowW colW
  | 2, 1 => kernelRun0_A.sl.r_3
  | _, _ => k0_pay19 rowW colW

/-- A word that holds a number below 64, moved by `d - 1` and compared with both ends of the grid. -/
def inside (d : ℕ) (x : BitVec 32) : BitVec 1 :=
  IntOp.andi (IntOp.cmpi .sge (IntOp.addi x (BitVec.ofNat 32 (d + 4294967295))) 0#32)
    (IntOp.cmpi .slt (IntOp.addi x (BitVec.ofNat 32 (d + 4294967295))) 64#32)

theorem inside_eq (d : Fin 3) (n : Fin 64) :
    inside d (BitVec.ofNat 32 n) = BitVec.ofBool (decide (1 ≤ n.val + d.val ∧ n.val + d.val ≤ 64)) := by
  revert d n
  decide +kernel

/-- The word of a mask as a number: one or zero. -/
theorem both_eq (P Q : Prop) [Decidable P] [Decidable Q] :
    ((BitVec.setWidth 32 (IntOp.andi (BitVec.ofBool (decide P)) (BitVec.ofBool (decide Q)))).toInt : ℝ)
      = if P ∧ Q then 1 else 0 := by
  by_cases hP : P <;> by_cases hQ : Q <;> simp [hP, hQ, IntOp.andi]

theorem mask_form (a b : Fin 3) (p : Fin 4096) :
    mask a b (ix2 p 0) = (((BitVec.setWidth 32 (IntOp.andi (inside a (BitVec.ofNat 32 (p.val / 64)))
      (inside b (BitVec.ofNat 32 (p.val % 64))))).toInt : ℝ) : EReal) := by
  rw [← rowW_at, ← colW_at]
  fin_cases a <;> fin_cases b <;> rfl

/-- The mask of the place `(a, b)` is one exactly at the pixels with a neighbour there. -/
theorem mask_at (a b : Fin 3) (p : Fin 4096) : mask a b (ix2 p 0) = (if Near a b p then 1 else 0 : EReal) := by
  have h := mask_form a b p
  rw [inside_eq a ⟨p.val / 64, by omega⟩, inside_eq b ⟨p.val % 64, by omega⟩, both_eq] at h
  rw [h]
  by_cases hN : Near a b p
  · rw [if_pos hN, if_pos (by unfold Near at hN; exact ⟨⟨hN.1, hN.2.1⟩, hN.2.2⟩)]; rfl
  · rw [if_neg hN, if_neg (by unfold Near at hN; exact fun hh => hN ⟨hh.1.1, hh.1.2, hh.2⟩)]; rfl

end Cert.KV

end
-- ==== Proof.KernelOps.lean ====
/- The kernel's vector operations, block by block: what each computes at a pixel and a channel. -/
module

public import proofs.«01_k».proof.Proof.KernelMasks
public import Idealize.ShloMosaic.Lib.MatmulPlain
public import Idealize.ShloMosaic.Lib.ValueLayout

@[expose] public section

set_option maxRecDepth 16384

noncomputable section

namespace Cert.KV

open Idealize.ShloMosaic Cert.KernelIdeal Cert.KernelIdeal.Gen Cert.KernelIdeal.Facts Cert.Scene

/-- A vector of pixels and channels, read as an image. -/
def img {C : ℕ} (x : FVec Ideal ⟨2, ![4096, C]⟩ .f32) : Img C := fun p c => x (ix2 p c)

/-- The nine matrices of a 3 by 3 kernel, read by output channel, input channel and place. -/
def taps {O C : ℕ} (w : FVec Ideal ⟨3, ![9, O, C]⟩ .f32) : Fin O → Fin C → Fin 3 → Fin 3 → EReal :=
  fun o c a b => w (ix3 ⟨3 * a.val + b.val, by omega⟩ o c)

/-! ### Rows rolled -/

/-- A block of rows of a vector of 4096 rows. -/
theorem rows_slice {C : ℕ} (k r : ℕ) (h : k + r ≤ 4096) : Shape.Slices ⟨2, ![4096, C]⟩ ![k, 0] ⟨2, ![r, C]⟩ :=
  ⟨rfl, fun a => match a with
    | ⟨0, _⟩ => h
    | ⟨1, _⟩ => by show 0 + C ≤ C; omega⟩

/-- Two blocks of rows make a vector of 4096 rows. -/
theorem rows_join {C : ℕ} (k r : ℕ) (h : k + r = 4096) :
    Shape.Concatenates [⟨2, ![r, C]⟩, ⟨2, ![k, C]⟩] ⟨2, ![4096, C]⟩ 0 := by
  refine ⟨le_refl 2, fun s hs => ?_, ?_⟩
  · rcases List.mem_pair.mp hs with rfl | rfl <;>
      exact ⟨rfl, fun b hb => match b, hb with
        | ⟨0, _⟩, hb => absurd rfl hb
        | ⟨1, _⟩, _ => rfl⟩
  · show r + (k + 0) = 4096
    omega

/-- The rows from `k` on, then the rows before `k`. -/
def roll {C : ℕ} (k r : ℕ) (h : k + r = 4096) (x : FVec Ideal ⟨2, ![4096, C]⟩ .f32) : FVec Ideal ⟨2, ![4096, C]⟩ .f32 :=
  concatenate ⟨2, ![4096, C]⟩ 0
    [⟨⟨2, ![r, C]⟩, extractStridedSlice ⟨2, ![r, C]⟩ ![k, 0] x (rows_slice k r h.le)⟩,
     ⟨⟨2, ![k, C]⟩, extractStridedSlice ⟨2, ![k, C]⟩ ![0, 0] x (rows_slice 0 k (by omega))⟩] (rows_join k r h)

theorem roll_at {C : ℕ} (k r : ℕ) (h : k + r = 4096) (x : FVec Ideal ⟨2, ![4096, C]⟩ .f32) (p : Fin 4096) (c : Fin C) :
    roll k r h x (ix2 p c) = x (ix2 ⟨(p.val + k) % 4096, Nat.mod_lt _ (by norm_num)⟩ c) := by
  unfold roll
  rw [concatenate_pair_apply]
  split
  · rename_i hlt
    have hlt' : p.val < r := hlt
    rw [Pointwise.extractStridedSlice_apply]
    refine congrArg x (funext fun i => ?_)
    match i with
    | ⟨0, _⟩ => exact Fin.ext (by show k + p.val = (p.val + k) % 4096; omega)
    | ⟨1, _⟩ => exact Fin.ext (by show 0 + c.val = c.val; omega)
  · rename_i hlt
    have hlt' : ¬ p.val < r := hlt
    rw [Pointwise.extractStridedSlice_apply]
    refine congrArg x (funext fun i => ?_)
    match i with
    | ⟨0, _⟩ => exact Fin.ext (by show 0 + (p.val - r) = (p.val + k) % 4096; have := p.isLt; omega)
    | ⟨1, _⟩ => exact Fin.ext (by show 0 + c.val = c.val; omega)

/-- One value per pixel stretches over the channels. -/
theorem col_stretch {C : ℕ} : Shape.Broadcasts ⟨2, ![4096, 1]⟩ ⟨2, ![4096, C]⟩ :=
  ⟨le_refl 2, fun a => match a with
    | ⟨0, _⟩ => Or.inr fun _ => rfl
    | ⟨1, _⟩ => Or.inl rfl⟩

/-- One value per channel stretches over the pixels. -/
theorem row_stretch {C : ℕ} : Shape.Broadcasts ⟨2, ![1, C]⟩ ⟨2, ![4096, C]⟩ :=
  ⟨le_refl 2, fun a => match a with
    | ⟨0, _⟩ => Or.inl rfl
    | ⟨1, _⟩ => Or.inr fun _ => rfl⟩

theorem col_stretch_at {C : ℕ} (x : FVec Ideal ⟨2, ![4096, 1]⟩ .f32) (h : Shape.Broadcasts ⟨2, ![4096, 1]⟩ ⟨2, ![4096, C]⟩)
    (p : Fin 4096) (c : Fin C) : broadcastTo ⟨2, ![4096, C]⟩ x h (ix2 p c) = x (ix2 p 0) := by
  rw [Pointwise.broadcastTo_apply]
  refine congrArg x (funext fun i => ?_)
  match i with
  | ⟨0, _⟩ => rfl
  | ⟨1, _⟩ => rfl

theorem row_stretch_at {C : ℕ} (x : FVec Ideal ⟨2, ![1, C]⟩ .f32) (h : Shape.Broadcasts ⟨2, ![1, C]⟩ ⟨2, ![4096, C]⟩)
    (p : Fin 4096) (c : Fin C) : broadcastTo ⟨2, ![4096, C]⟩ x h (ix2 p c) = x (ix2 0 c) := by
  refine broadcastTo_apply x h _ _ fun i => ?_
  match i with
  | ⟨0, _⟩ => rfl
  | ⟨1, _⟩ =>
    show c.val = if C = 1 then 0 else c.val
    split
    · have := c.isLt; omega
    · rfl

/-- A vector times a mask. -/
def masked {C : ℕ} (a b : ℕ) (y : FVec Ideal ⟨2, ![4096, C]⟩ .f32) : FVec Ideal ⟨2, ![4096, C]⟩ .f32 :=
  mulf y (broadcastTo ⟨2, ![4096, C]⟩ (mask a b) col_stretch)

/-- A vector times a mask, as images: where it holds the neighbours, it is the image seen through that place. -/
theorem masked_eq {C : ℕ} (a b : Fin 3) (x y : FVec Ideal ⟨2, ![4096, C]⟩ .f32)
    (hy : ∀ p q : Fin 4096, ∀ c, Near a b p → q.val = p.val + 64 * a + b - 65 → y (ix2 p c) = x (ix2 q c)) :
    img (masked a b y) = tap a b (img x) := by
  funext p c
  have e : img (masked a b y) p c = y (ix2 p c) * mask a b (ix2 p 0) := by
    rw [← col_stretch_at (mask a b) col_stretch p c]; rfl
  rw [e, mask_at]
  unfold tap
  by_cases h : Near a b p
  · rw [if_pos h, dif_pos h, mul_one]; exact hy p _ c h rfl
  · rw [if_neg h, dif_neg h, mul_zero]

/-- The neighbours reached by rolling by columns first, then by rows. -/
theorem rolled_twice {C : ℕ} (a b : Fin 3) (k r k' r' : ℕ) (h : k + r = 4096) (h' : k' + r' = 4096)
    (hk : (k + k' + 65) % 4096 = 64 * a.val + b.val) (x : FVec Ideal ⟨2, ![4096, C]⟩ .f32) :
    img (masked a b (roll k' r' h' (roll k r h x))) = tap a b (img x) :=
  masked_eq a b x _ fun p q c hn hq => by
    rw [roll_at, roll_at]
    refine congrArg (fun i => x (ix2 i c)) (Fin.ext ?_)
    show ((p.val + k') % 4096 + k) % 4096 = q.val
    have := q.isLt; unfold Near at hn
    omega

/-- The neighbours reached by one roll. -/
theorem rolled_once {C : ℕ} (a b : Fin 3) (k r : ℕ) (h : k + r = 4096)
    (hk : (k + 65) % 4096 = 64 * a.val + b.val) (x : FVec Ideal ⟨2, ![4096, C]⟩ .f32) :
    img (masked a b (roll k r h x)) = tap a b (img x) :=
  masked_eq a b x _ fun p q c hn hq => by
    rw [roll_at]
    refine congrArg (fun i => x (ix2 i c)) (Fin.ext ?_)
    show (p.val + k) % 4096 = q.val
    have := q.isLt; unfold Near at hn
    omega

/-- The centre needs no roll. -/
theorem unrolled {C : ℕ} (x : FVec Ideal ⟨2, ![4096, C]⟩ .f32) : img (masked (1 : Fin 3) (1 : Fin 3) x) = tap 1 1 (img x) :=
  masked_eq 1 1 x x fun p q c _ hq => by
    refine congrArg (fun i => x (ix2 i c)) (Fin.ext ?_)
    have e : q.val = p.val + 64 * 1 + 1 - 65 := hq
    omega

/-! ### Products with the weights -/

/-- A product with a matrix of weights, one row per output channel, from a zero accumulator. -/
def times {C O : ℕ} (x : FVec Ideal ⟨2, ![4096, C]⟩ .f32) (w : FVec Ideal ⟨2, ![O, C]⟩ .f32) : FVec Ideal ⟨2, ![4096, O]⟩ .f32 :=
  matmul (DotDims.transposedRhs 4096 C O) none x w (constant ⟨2, ![4096, O]⟩ .f32 0x00000000#32)

theorem times_at {C O : ℕ} (x : FVec Ideal ⟨2, ![4096, C]⟩ .f32) (w : FVec Ideal ⟨2, ![O, C]⟩ .f32) (p : Fin 4096) (o : Fin O) :
    times x w (ix2 p o) = ∑ c : Fin C, img x p c * w (ix2 o c) := by
  have h0 : (constant (F := Ideal) ⟨2, ![4096, O]⟩ .f32 0x00000000#32) (ix2 p o) = (0 : EReal) := by pointwise
  refine (Idealize.ShloMosaic.Ideal.matmul_transposedRhs_apply none x w _ p o).trans ?_
  exact (congrArg (· + ∑ c : Fin C, img x p c * w (ix2 o c)) h0).trans (zero_add _)

/-- The weights at one place of the window. -/
theorem place_slice {O C : ℕ} (k : ℕ) (h : k < 9) : Shape.Slices ⟨3, ![9, O, C]⟩ ![k, 0, 0] ⟨3, ![1, O, C]⟩ :=
  ⟨rfl, fun a => match a with
    | ⟨0, _⟩ => by show k + 1 ≤ 9; omega
    | ⟨1, _⟩ => by show 0 + O ≤ O; omega
    | ⟨2, _⟩ => by show 0 + C ≤ C; omega⟩

theorem drop_one {O C : ℕ} : Shape.ShapeCasts ⟨3, ![1, O, C]⟩ ⟨2, ![O, C]⟩ := by
  show Shape.numel _ = Shape.numel _
  simp [Shape.numel, Fin.prod_univ_succ]

/-- The matrix of weights at place `k` of the window. -/
def place {O C : ℕ} (k : ℕ) (h : k < 9) (w : FVec Ideal ⟨3, ![9, O, C]⟩ .f32) : FVec Ideal ⟨2, ![O, C]⟩ .f32 :=
  shapeCast ⟨2, ![O, C]⟩ (extractStridedSlice ⟨3, ![1, O, C]⟩ ![k, 0, 0] w (place_slice k h)) drop_one

theorem place_at {O C : ℕ} (k : ℕ) (h : k < 9) (w : FVec Ideal ⟨3, ![9, O, C]⟩ .f32) (o : Fin O) (c : Fin C) :
    place k h w (ix2 o c) = w (ix3 ⟨k, h⟩ o c) := by
  unfold place
  refine (Idealize.ShloMosaic.ValueIdx.shapeCast_1ab_ab_apply _ _ o c).trans ?_
  rw [Pointwise.extractStridedSlice_apply]
  refine congrArg w (funext fun i => ?_)
  match i with
  | ⟨0, _⟩ => rfl
  | ⟨1, _⟩ => exact Fin.ext (by show 0 + o.val = o.val; omega)
  | ⟨2, _⟩ => exact Fin.ext (by show 0 + c.val = c.val; omega)

/-- The kernel's convolution: nine masked, rolled copies, columns first, each times its matrix. -/
def convK {C O : ℕ} (x : FVec Ideal ⟨2, ![4096, C]⟩ .f32) (w : FVec Ideal ⟨3, ![9, O, C]⟩ .f32) :
    FVec Ideal ⟨2, ![4096, O]⟩ .f32 :=
  let l := roll 4095 1 rfl x
  let r := roll 1 4095 rfl x
  addf (addf (addf (addf (addf (addf (addf (addf
    (times (masked 0 0 (roll 4032 64 rfl l)) (place 0 (by norm_num) w))
    (times (masked 1 0 l) (place 3 (by norm_num) w)))
    (times (masked 2 0 (roll 64 4032 rfl l)) (place 6 (by norm_num) w)))
    (times (masked 0 1 (roll 4032 64 rfl x)) (place 1 (by norm_num) w)))
    (times (masked 1 1 x) (place 4 (by norm_num) w)))
    (times (masked 2 1 (roll 64 4032 rfl x)) (place 7 (by norm_num) w)))
    (times (masked 0 2 (roll 4032 64 rfl r)) (place 2 (by norm_num) w)))
    (times (masked 1 2 r) (place 5 (by norm_num) w)))
    (times (masked 2 2 (roll 64 4032 rfl r)) (place 8 (by norm_num) w))

/-- One of the nine terms. -/
theorem term_at {C O : ℕ} (a b : Fin 3) (k : ℕ) (hk : k < 9) (e : k = 3 * a.val + b.val) (x y : FVec Ideal ⟨2, ![4096, C]⟩ .f32)
    (h : img y = tap a b (img x)) (w : FVec Ideal ⟨3, ![9, O, C]⟩ .f32) (p : Fin 4096) (o : Fin O) :
    times y (place k hk w) (ix2 p o) = ∑ c : Fin C, tap a b (img x) p c * taps w o c a b := by
  subst e
  rw [times_at, h]
  exact Finset.sum_congr rfl fun c _ => by rw [place_at]; rfl

theorem convK_eq {C O : ℕ} (x : FVec Ideal ⟨2, ![4096, C]⟩ .f32) (w : FVec Ideal ⟨3, ![9, O, C]⟩ .f32) :
    img (convK x w) = conv3 (img x) (taps w) := by
  funext p o
  unfold conv3
  rw [sum_nine fun a b => ∑ c : Fin C, tap a b (img x) p c * taps w o c a b]
  rw [← term_at 0 0 0 (by norm_num) rfl x _ (rolled_twice 0 0 4095 1 4032 64 rfl rfl rfl x) w p o,
    ← term_at 1 0 3 (by norm_num) rfl x _ (rolled_once 1 0 4095 1 rfl rfl x) w p o,
    ← term_at 2 0 6 (by norm_num) rfl x _ (rolled_twice 2 0 4095 1 64 4032 rfl rfl rfl x) w p o,
    ← term_at 0 1 1 (by norm_num) rfl x _ (rolled_once 0 1 4032 64 rfl rfl x) w p o,
    ← term_at 1 1 4 (by norm_num) rfl x _ (unrolled x) w p o,
    ← term_at 2 1 7 (by norm_num) rfl x _ (rolled_once 2 1 64 4032 rfl rfl x) w p o,
    ← term_at 0 2 2 (by norm_num) rfl x _ (rolled_twice 0 2 1 4095 4032 64 rfl rfl rfl x) w p o,
    ← term_at 1 2 5 (by norm_num) rfl x _ (rolled_once 1 2 1 4095 rfl rfl x) w p o,
    ← term_at 2 2 8 (by norm_num) rfl x _ (rolled_twice 2 2 1 4095 64 4032 rfl rfl rfl x) w p o]
  rfl

/-! ### Normalisation over the pixels -/

theorem drop_rows {C : ℕ} : Shape.Reduces ⟨2, ![4096, C]⟩ [0] ⟨1, ![C]⟩ :=
  ⟨rfl, Nat.one_pos, fun b => match b with | ⟨0, _⟩ => rfl⟩

theorem drop_cols {C : ℕ} : Shape.Reduces ⟨2, ![4096, C]⟩ [1] ⟨1, ![4096]⟩ :=
  ⟨rfl, Nat.one_pos, fun b => match b with | ⟨0, _⟩ => rfl⟩

theorem one_row {C : ℕ} : Shape.ShapeCasts ⟨1, ![C]⟩ ⟨2, ![1, C]⟩ := by
  show Shape.numel _ = Shape.numel _
  simp [Shape.numel, Fin.prod_univ_succ]

theorem one_col : Shape.ShapeCasts ⟨1, ![4096]⟩ ⟨2, ![4096, 1]⟩ := by
  show Shape.numel _ = Shape.numel _
  simp [Shape.numel, Fin.prod_univ_succ]

/-- A channel's sum over the pixels, as one row. -/
def down {C : ℕ} (x : FVec Ideal ⟨2, ![4096, C]⟩ .f32) : FVec Ideal ⟨2, ![1, C]⟩ .f32 :=
  shapeCast ⟨2, ![1, C]⟩ (multiReduction .add [0] ⟨1, ![C]⟩ x 0x00000000#32 drop_rows (.inl rfl) rfl) one_row

/-- A pixel's sum over the channels, as one column. -/
def across {C : ℕ} (x : FVec Ideal ⟨2, ![4096, C]⟩ .f32) : FVec Ideal ⟨2, ![4096, 1]⟩ .f32 :=
  shapeCast ⟨2, ![4096, 1]⟩ (multiReduction .add [1] ⟨1, ![4096]⟩ x 0x00000000#32 drop_cols (.inl rfl) rfl) one_col

theorem down_at {C : ℕ} (x : FVec Ideal ⟨2, ![4096, C]⟩ .f32) (c : Fin C) : down x (ix2 0 c) = ∑ p, img x p c := by
  unfold down
  rw [shapeCast_apply _ one_row (ix2 0 c) (ix1 c) (by
    rw [Shape.rowMajor_val_one, Shape.rowMajor_val_two]
    show c.val = 0 * C + c.val
    omega)]
  exact (multiReduction_add_apply x _ drop_rows (.inl rfl) rfl (ix1 c)).trans
    ((congrFun (Idealize.ShloMosaic.Ideal.reduceAdd_def _ drop_rows x) (ix1 c)).trans (Idealize.ShloMosaic.Ideal.reduceAdd_r2_a0 drop_rows x (ix1 c)))

theorem across_at {C : ℕ} (x : FVec Ideal ⟨2, ![4096, C]⟩ .f32) (p : Fin 4096) : across x (ix2 p 0) = ∑ c, img x p c := by
  unfold across
  rw [shapeCast_apply _ one_col (ix2 p 0) (ix1 p) (by
    rw [Shape.rowMajor_val_one, Shape.rowMajor_val_two]
    show p.val = p.val * 1 + 0
    omega)]
  exact (multiReduction_add_apply x _ drop_cols (.inl rfl) rfl (ix1 p)).trans
    ((congrFun (Idealize.ShloMosaic.Ideal.reduceAdd_def _ drop_cols x) (ix1 p)).trans (Idealize.ShloMosaic.Ideal.reduceAdd_r2_a1 drop_cols x (ix1 p)))

/-- An element over all pixels and a constant, times a stretched row. -/
theorem mulf_row {C : ℕ} (x : FVec Ideal ⟨2, ![4096, C]⟩ .f32) (r : FVec Ideal ⟨2, ![1, C]⟩ .f32) (p : Fin 4096) (c : Fin C) :
    img (mulf x (broadcastTo ⟨2, ![4096, C]⟩ r row_stretch)) p c = img x p c * r (ix2 0 c) := by
  rw [← row_stretch_at r row_stretch p c]; rfl

theorem subf_row {C : ℕ} (x : FVec Ideal ⟨2, ![4096, C]⟩ .f32) (r : FVec Ideal ⟨2, ![1, C]⟩ .f32) (p : Fin 4096) (c : Fin C) :
    img (subf x (broadcastTo ⟨2, ![4096, C]⟩ r row_stretch)) p c = img x p c - r (ix2 0 c) := by
  rw [← row_stretch_at r row_stretch p c]; rfl

theorem mulf_col {C : ℕ} (x : FVec Ideal ⟨2, ![4096, C]⟩ .f32) (r : FVec Ideal ⟨2, ![4096, 1]⟩ .f32) (p : Fin 4096) (c : Fin C) :
    img (mulf x (broadcastTo ⟨2, ![4096, C]⟩ r col_stretch)) p c = img x p c * r (ix2 p 0) := by
  rw [← col_stretch_at r col_stretch p c]; rfl

/-- A row over the number of pixels. -/
def overN {C : ℕ} (r : FVec Ideal ⟨2, ![1, C]⟩ .f32) : FVec Ideal ⟨2, ![1, C]⟩ .f32 :=
  divf r (broadcast ⟨2, ![1, C]⟩ (Scalar.ofBits (F := Ideal) .f32 0x45800000#32))

theorem overN_at {C : ℕ} (r : FVec Ideal ⟨2, ![1, C]⟩ .f32) (i) : overN r i = Idealize.ShloMosaic.Ideal.div (r i) npix := rfl

/-- The reciprocal root of a row plus 1e-5. -/
def rootEps {C : ℕ} (r : FVec Ideal ⟨2, ![1, C]⟩ .f32) : FVec Ideal ⟨2, ![1, C]⟩ .f32 :=
  rsqrt (addf r (broadcast ⟨2, ![1, C]⟩ (Scalar.ofBits (F := Ideal) .f32 0x3727C5AC#32)))

theorem rootEps_at {C : ℕ} (r : FVec Ideal ⟨2, ![1, C]⟩ .f32) (i) : rootEps r i = Idealize.ShloMosaic.Ideal.rsqrt (r i + eps5) := rfl

/-- A vector less its channels' means. -/
def centred {C : ℕ} (x : FVec Ideal ⟨2, ![4096, C]⟩ .f32) : FVec Ideal ⟨2, ![4096, C]⟩ .f32 :=
  subf x (broadcastTo ⟨2, ![4096, C]⟩ (overN (down x)) row_stretch)

theorem centred_at {C : ℕ} (x : FVec Ideal ⟨2, ![4096, C]⟩ .f32) (p : Fin 4096) (c : Fin C) :
    img (centred x) p c = img x p c - mean (img x) c := by
  unfold centred mean
  rw [subf_row, overN_at, down_at]

/-- The kernel's normalisation over the pixels. -/
def bnormK {C : ℕ} (x : FVec Ideal ⟨2, ![4096, C]⟩ .f32) : FVec Ideal ⟨2, ![4096, C]⟩ .f32 :=
  mulf (centred x) (broadcastTo ⟨2, ![4096, C]⟩ (rootEps (overN (down (mulf (centred x) (centred x))))) row_stretch)

theorem img_mulf {C : ℕ} (x y : FVec Ideal ⟨2, ![4096, C]⟩ .f32) (p : Fin 4096) (c : Fin C) :
    img (mulf x y) p c = img x p c * img y p c := rfl

theorem img_addf {C : ℕ} (x y : FVec Ideal ⟨2, ![4096, C]⟩ .f32) :
    img (addf x y) = fun p c => img x p c + img y p c := rfl

theorem bnormK_eq {C : ℕ} (x : FVec Ideal ⟨2, ![4096, C]⟩ .f32) : img (bnormK x) = bnorm (img x) := by
  funext p c
  unfold bnormK bnorm var
  rw [mulf_row, rootEps_at, overN_at, down_at, centred_at]
  simp only [img_mulf, centred_at]

/-! ### The positive part, the added values per channel, the residual block -/

def reluK {C : ℕ} (x : FVec Ideal ⟨2, ![4096, C]⟩ .f32) : FVec Ideal ⟨2, ![4096, C]⟩ .f32 :=
  maximumf x (broadcast ⟨2, ![4096, C]⟩ (Scalar.ofBits (F := Ideal) .f32 0x00000000#32))

theorem reluK_eq {C : ℕ} (x : FVec Ideal ⟨2, ![4096, C]⟩ .f32) : img (reluK x) = relu (img x) := by
  funext p c
  have e0 : (Scalar.ofBits (F := Ideal) .f32 0x00000000#32 : EReal) = 0 := by pointwise
  show max (x (ix2 p c)) (Scalar.ofBits (F := Ideal) .f32 0x00000000#32 : EReal) = _
  rw [e0]; rfl

def biasK {C : ℕ} (x : FVec Ideal ⟨2, ![4096, C]⟩ .f32) (b : FVec Ideal ⟨2, ![1, C]⟩ .f32) : FVec Ideal ⟨2, ![4096, C]⟩ .f32 :=
  addf x (broadcastTo ⟨2, ![4096, C]⟩ b row_stretch)

theorem biasK_eq {C : ℕ} (x : FVec Ideal ⟨2, ![4096, C]⟩ .f32) (b : FVec Ideal ⟨2, ![1, C]⟩ .f32) :
    img (biasK x b) = bias (img x) fun c => b (ix2 0 c) := by
  funext p c
  show x (ix2 p c) + _ = _
  rw [row_stretch_at]; rfl

theorem times_eq {C O : ℕ} (x : FVec Ideal ⟨2, ![4096, C]⟩ .f32) (w : FVec Ideal ⟨2, ![O, C]⟩ .f32) :
    img (times x w) = conv1 (img x) fun o c => w (ix2 o c) := by
  funext p o; exact times_at x w p o

def resblockK (x : FVec Ideal ⟨2, ![4096, 64]⟩ .f32) (w₁ w₂ : FVec Ideal ⟨3, ![9, 64, 64]⟩ .f32) : FVec Ideal ⟨2, ![4096, 64]⟩ .f32 :=
  reluK (addf x (bnormK (convK (reluK (bnormK (convK x w₁))) w₂)))

theorem resblockK_eq (x : FVec Ideal ⟨2, ![4096, 64]⟩ .f32) (w₁ w₂ : FVec Ideal ⟨3, ![9, 64, 64]⟩ .f32) :
    img (resblockK x w₁ w₂) = resblock (img x) (taps w₁) (taps w₂) := by
  unfold resblockK resblock
  rw [reluK_eq, img_addf, bnormK_eq, convK_eq, reluK_eq, bnormK_eq, convK_eq]

/-! ### Unit vectors and affinities -/

/-- The square root of a sum, plus 1e-8, turned into its reciprocal. -/
def recipLen (q : FVec Ideal ⟨2, ![4096, 1]⟩ .f32) : FVec Ideal ⟨2, ![4096, 1]⟩ .f32 :=
  divf (broadcast ⟨2, ![4096, 1]⟩ (Scalar.ofBits (F := Ideal) .f32 0x3F800000#32))
    (addf (sqrt q) (broadcast ⟨2, ![4096, 1]⟩ (Scalar.ofBits (F := Ideal) .f32 0x322BCC77#32)))

def unitK {C : ℕ} (x : FVec Ideal ⟨2, ![4096, C]⟩ .f32) : FVec Ideal ⟨2, ![4096, C]⟩ .f32 :=
  mulf x (broadcastTo ⟨2, ![4096, C]⟩ (recipLen (across (mulf x x))) col_stretch)

theorem recipLen_at (q : FVec Ideal ⟨2, ![4096, 1]⟩ .f32) (i) :
    recipLen q i = Idealize.ShloMosaic.Ideal.div 1 (Idealize.ShloMosaic.Ideal.sqrt (q i) + eps8) := by
  have e1 : (Scalar.ofBits (F := Ideal) .f32 0x3F800000#32 : EReal) = 1 := by pointwise
  rw [← e1]; rfl

theorem unitK_eq {C : ℕ} (x : FVec Ideal ⟨2, ![4096, C]⟩ .f32) : img (unitK x) = unit (img x) := by
  funext p c
  unfold unitK unit len
  rw [mulf_col, recipLen_at, across_at, mul_recip _ (sqrt_add_ne_zero _)]
  simp only [img_mulf]

/-- One affinity plane, repeated over the 128 channels of the state. -/
def planeK (q y : FVec Ideal ⟨2, ![4096, 64]⟩ .f32) : FVec Ideal ⟨2, ![4096, 128]⟩ .f32 :=
  broadcastTo ⟨2, ![4096, 128]⟩ (shapeCast ⟨2, ![4096, 1]⟩ (across (mulf q y)) rfl) col_stretch

theorem planeK_eq (a b : Fin 3) (q k y : FVec Ideal ⟨2, ![4096, 64]⟩ .f32) (h : img y = tap a b (img k)) (p : Fin 4096) (c : Fin 128) :
    planeK q y (ix2 p c) = plane (img q) (img k) a b p := by
  unfold planeK
  rw [shapeCast_self, col_stretch_at, across_at]
  unfold plane
  simp only [img_mulf, h]

end Cert.KV

end
-- ==== Proof.KernelFeatures.lean ====
/- The kernel's named values before its rounds: the features, the two branches, their unit vectors and the nine
   affinity planes, each as the vector functions of the operations module applied to the loaded arrays. -/
module

public import proofs.«01_k».proof.Proof.KernelOps
public import Idealize.ShloMosaic.Lib.WholeRead

@[expose] public section

set_option maxRecDepth 16384

noncomputable section

namespace Cert.KV

open Idealize.ShloMosaic Cert.KernelIdeal Cert.KernelIdeal.Gen Cert.KernelIdeal.Facts Cert.Scene

/-- A load of a whole array held at `X` is `X`. -/
theorem load_whole {sp : Space} {s : Shape} {e : EltTy} {m : Memref sig .tc sp s e} (h : m.IsWhole)
    (X : s.Idx → Elt Ideal e) {off : Fin s.rank → ℕ} (h0 : ∀ a, off a = 0) (inb : ∀ a, off a + s.size a ≤ s.size a) :
    View.readAt (Elt Ideal) m.view (Rect.unit off s.size inb).toLoadRect (h.unread X) = X := by
  funext x
  rw [h.readAt_unread]
  refine congrArg X (funext fun a => Fin.ext ?_)
  show off a + 1 * (x a).val = (x a).val
  rw [h0 a]; omega

/-- A load of a whole array held at `X`, cast to its own shape, is `X`. -/
theorem loaded {sp : Space} {s : Shape} {e : EltTy} {m : Memref sig .tc sp s e} (h : m.IsWhole)
    (X : s.Idx → Elt Ideal e) {off : Fin s.rank → ℕ} (h0 : ∀ a, off a = 0) (inb : ∀ a, off a + s.size a ≤ s.size a) (hc : s.ShapeCasts s) :
    shapeCast s (View.readAt (Elt Ideal) m.view (Rect.unit off s.size inb).toLoadRect (h.unread X)) hc = X :=
  (congrArg (fun v : s.Idx → Elt Ideal e => shapeCast s v hc) (load_whole h X h0 inb)).trans (shapeCast_self X hc)

theorem z2 (a : Fin 2) : (![0, 0] : Fin 2 → ℕ) a = 0 := by revert a; decide
theorem z3 (a : Fin 3) : (![0, 0, 0] : Fin 3 → ℕ) a = 0 := by revert a; decide

/-- The features from the loaded arrays. -/
def headK (x : FVec Ideal S4096x3 .f32) (w1 : FVec Ideal S9x64x3 .f32) (b1 : FVec Ideal S1x64 .f32) (w2 : FVec Ideal S64x64 .f32)
    (b2 : FVec Ideal S1x64 .f32) : FVec Ideal S4096x64 .f32 :=
  reluK (biasK (times (reluK (biasK (convK x w1) b1)) w2) b2)

theorem headK_eq (x : FVec Ideal S4096x3 .f32) (w1 : FVec Ideal S9x64x3 .f32) (b1 : FVec Ideal S1x64 .f32) (w2 : FVec Ideal S64x64 .f32)
    (b2 : FVec Ideal S1x64 .f32) : img (headK x w1 b1 w2 b2)
      = head (img x) (taps w1) (fun c => b1 (ix2 0 c)) (fun o c => w2 (ix2 o c)) (fun c => b2 (ix2 0 c)) := by
  unfold headK head
  rw [reluK_eq, biasK_eq, times_eq, reluK_eq, biasK_eq, convK_eq]

section
variable (c : Dev nD) (arg0 : Memref sig .tc .vmem S4096x3 .f32) (harg0 : arg0.IsWhole) (arg1 : Memref sig .tc .vmem S9x64x3 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S9x64x64 .f32) (harg5 : arg5.IsWhole) (arg6 : Memref sig .tc .vmem S9x64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S9x64x64 .f32) (harg9 : arg9.IsWhole) (arg10 : Memref sig .tc .vmem S9x64x64 .f32) (harg10 : arg10.IsWhole) (arg11 : Memref sig .tc .vmem S64x64 .f32) (harg11 : arg11.IsWhole) (arg12 : Memref sig .tc .vmem S4096x128 .f32) (harg12 : arg12.IsWhole) (arg14 : Memref sig .tc .vmem S4240x128 .f32)
  (x0 : Vec Ideal S4096x3 .f32) (x1 : Vec Ideal S9x64x3 .f32) (x2 : Vec Ideal S1x64 .f32) (x3 : Vec Ideal S64x64 .f32) (x4 : Vec Ideal S1x64 .f32) (x5 : Vec Ideal S9x64x64 .f32) (x6 : Vec Ideal S9x64x64 .f32) (x7 : Vec Ideal S64x64 .f32) (x8 : Vec Ideal S1x64 .f32) (x9 : Vec Ideal S9x64x64 .f32) (x10 : Vec Ideal S9x64x64 .f32) (x11 : Vec Ideal S64x64 .f32) (x12 : Vec Ideal S4096x128 .f32)

/-- The kernel's features. -/
theorem h_eq : kernelRun0_A.sl.r_10 c arg0 harg0 arg1 harg1 arg2 harg2 arg3 harg3 arg4 harg4 x0 x1 x2 x3 x4
    = headK x0 x1 x2 x3 x4 := by
  have h : kernelRun0_A.sl.r_10 c arg0 harg0 arg1 harg1 arg2 harg2 arg3 harg3 arg4 harg4 x0 x1 x2 x3 x4
      = headK (shapeCast S4096x3 (View.readAt (Elt Ideal) arg0.view (Rect.unit ![0, 0] S4096x3.size inb_S4096x3_S4096x3_0_0).toLoadRect (harg0.unread x0)) shapeCasts_S4096x3_S4096x3)
        (shapeCast S9x64x3 (View.readAt (Elt Ideal) arg1.view (Rect.unit ![0, 0, 0] S9x64x3.size inb_S9x64x3_S9x64x3_0_0_0).toLoadRect (harg1.unread x1)) shapeCasts_S9x64x3_S9x64x3)
        (shapeCast S1x64 (View.readAt (Elt Ideal) arg2.view (Rect.unit ![0, 0] S1x64.size inb_S1x64_S1x64_0_0).toLoadRect (harg2.unread x2)) shapeCasts_S1x64_S1x64)
        (shapeCast S64x64 (View.readAt (Elt Ideal) arg3.view (Rect.unit ![0, 0] S64x64.size inb_S64x64_S64x64_0_0).toLoadRect (harg3.unread x3)) shapeCasts_S64x64_S64x64)
        (shapeCast S1x64 (View.readAt (Elt Ideal) arg4.view (Rect.unit ![0, 0] S1x64.size inb_S1x64_S1x64_0_0).toLoadRect (harg4.unread x4)) shapeCasts_S1x64_S1x64) := rfl
  rw [h, loaded harg0 x0 z2, loaded harg1 x1 z3, loaded harg2 x2 z2, loaded harg3 x3 z2, loaded harg4 x4 z2]

/-- The key branch after its first convolution. -/
theorem k1_eq : kernelRun0_A.sl.r_17 c arg0 harg0 arg1 harg1 arg2 harg2 arg3 harg3 arg4 harg4 arg5 harg5 x0 x1 x2 x3 x4 x5
    = reluK (bnormK (convK (headK x0 x1 x2 x3 x4) x5)) := by
  rw [← h_eq c arg0 harg0 arg1 harg1 arg2 harg2 arg3 harg3 arg4 harg4 x0 x1 x2 x3 x4]
  have h : kernelRun0_A.sl.r_17 c arg0 harg0 arg1 harg1 arg2 harg2 arg3 harg3 arg4 harg4 arg5 harg5 x0 x1 x2 x3 x4 x5
      = reluK (bnormK (convK (kernelRun0_A.sl.r_10 c arg0 harg0 arg1 harg1 arg2 harg2 arg3 harg3 arg4 harg4 x0 x1 x2 x3 x4)
          (shapeCast S9x64x64 (View.readAt (Elt Ideal) arg5.view (Rect.unit ![0, 0, 0] S9x64x64.size inb_S9x64x64_S9x64x64_0_0_0).toLoadRect (harg5.unread x5)) shapeCasts_S9x64x64_S9x64x64))) := rfl
  rw [h, loaded harg5 x5 z3]

/-- The key branch. -/
theorem k_eq : kernelRun0_A.sl.r_23 c arg0 harg0 arg1 harg1 arg2 harg2 arg3 harg3 arg4 harg4 arg5 harg5 arg6 harg6 arg7 harg7 arg8 harg8 x0 x1 x2 x3 x4 x5 x6 x7 x8
    = biasK (times (resblockK (headK x0 x1 x2 x3 x4) x5 x6) x7) x8 := by
  unfold resblockK
  rw [← k1_eq c arg0 harg0 arg1 harg1 arg2 harg2 arg3 harg3 arg4 harg4 arg5 harg5 x0 x1 x2 x3 x4 x5, ← h_eq c arg0 harg0 arg1 harg1 arg2 harg2 arg3 harg3 arg4 harg4 x0 x1 x2 x3 x4]
  have h : kernelRun0_A.sl.r_23 c arg0 harg0 arg1 harg1 arg2 harg2 arg3 harg3 arg4 harg4 arg5 harg5 arg6 harg6 arg7 harg7 arg8 harg8 x0 x1 x2 x3 x4 x5 x6 x7 x8
      = biasK (times (reluK (addf (kernelRun0_A.sl.r_10 c arg0 harg0 arg1 harg1 arg2 harg2 arg3 harg3 arg4 harg4 x0 x1 x2 x3 x4)
          (bnormK (convK (kernelRun0_A.sl.r_17 c arg0 harg0 arg1 harg1 arg2 harg2 arg3 harg3 arg4 harg4 arg5 harg5 x0 x1 x2 x3 x4 x5) (shapeCast S9x64x64 (View.readAt (Elt Ideal) arg6.view (Rect.unit ![0, 0, 0] S9x64x64.size inb_S9x64x64_S9x64x64_0_0_0).toLoadRect (harg6.unread x6)) shapeCasts_S9x64x64_S9x64x64)))))
          (shapeCast S64x64 (View.readAt (Elt Ideal) arg7.view (Rect.unit ![0, 0] S64x64.size inb_S64x64_S64x64_0_0).toLoadRect (harg7.unread x7)) shapeCasts_S64x64_S64x64))
          (shapeCast S1x64 (View.readAt (Elt Ideal) arg8.view (Rect.unit ![0, 0] S1x64.size inb_S1x64_S1x64_0_0).toLoadRect (harg8.unread x8)) shapeCasts_S1x64_S1x64) := rfl
  rw [h, loaded harg6 x6 z3, loaded harg7 x7 z2, loaded harg8 x8 z2]

/-- The query branch after its first convolution. -/
theorem q1_eq : kernelRun0_A.sl.r_28 c arg0 harg0 arg1 harg1 arg2 harg2 arg3 harg3 arg4 harg4 arg9 harg9 x0 x1 x2 x3 x4 x9
    = reluK (bnormK (convK (headK x0 x1 x2 x3 x4) x9)) := by
  rw [← h_eq c arg0 harg0 arg1 harg1 arg2 harg2 arg3 harg3 arg4 harg4 x0 x1 x2 x3 x4]
  have h : kernelRun0_A.sl.r_28 c arg0 harg0 arg1 harg1 arg2 harg2 arg3 harg3 arg4 harg4 arg9 harg9 x0 x1 x2 x3 x4 x9
      = reluK (bnormK (convK (kernelRun0_A.sl.r_10 c arg0 harg0 arg1 harg1 arg2 harg2 arg3 harg3 arg4 harg4 x0 x1 x2 x3 x4)
          (shapeCast S9x64x64 (View.readAt (Elt Ideal) arg9.view (Rect.unit ![0, 0, 0] S9x64x64.size inb_S9x64x64_S9x64x64_0_0_0).toLoadRect (harg9.unread x9)) shapeCasts_S9x64x64_S9x64x64))) := rfl
  rw [h, loaded harg9 x9 z3]

/-- The query branch. -/
theorem q_eq : kernelRun0_A.sl.r_34 c arg0 harg0 arg1 harg1 arg2 harg2 arg3 harg3 arg4 harg4 arg9 harg9 arg10 harg10 arg11 harg11 x0 x1 x2 x3 x4 x9 x10 x11
    = times (resblockK (headK x0 x1 x2 x3 x4) x9 x10) x11 := by
  unfold resblockK
  rw [← q1_eq c arg0 harg0 arg1 harg1 arg2 harg2 arg3 harg3 arg4 harg4 arg9 harg9 x0 x1 x2 x3 x4 x9, ← h_eq c arg0 harg0 arg1 harg1 arg2 harg2 arg3 harg3 arg4 harg4 x0 x1 x2 x3 x4]
  have h : kernelRun0_A.sl.r_34 c arg0 harg0 arg1 harg1 arg2 harg2 arg3 harg3 arg4 harg4 arg9 harg9 arg10 harg10 arg11 harg11 x0 x1 x2 x3 x4 x9 x10 x11
      = times (reluK (addf (kernelRun0_A.sl.r_10 c arg0 harg0 arg1 harg1 arg2 harg2 arg3 harg3 arg4 harg4 x0 x1 x2 x3 x4)
          (bnormK (convK (kernelRun0_A.sl.r_28 c arg0 harg0 arg1 harg1 arg2 harg2 arg3 harg3 arg4 harg4 arg9 harg9 x0 x1 x2 x3 x4 x9) (shapeCast S9x64x64 (View.readAt (Elt Ideal) arg10.view (Rect.unit ![0, 0, 0] S9x64x64.size inb_S9x64x64_S9x64x64_0_0_0).toLoadRect (harg10.unread x10)) shapeCasts_S9x64x64_S9x64x64)))))
          (shapeCast S64x64 (View.readAt (Elt Ideal) arg11.view (Rect.unit ![0, 0] S64x64.size inb_S64x64_S64x64_0_0).toLoadRect (harg11.unread x11)) shapeCasts_S64x64_S64x64) := rfl
  rw [h, loaded harg10 x10 z3, loaded harg11 x11 z2]

/-- The unit vectors of the queries and the keys. -/
theorem qn_eq : kernelRun0_A.sl.r_36 c arg0 harg0 arg1 harg1 arg2 harg2 arg3 harg3 arg4 harg4 arg9 harg9 arg10 harg10 arg11 harg11 x0 x1 x2 x3 x4 x9 x10 x11
    = unitK (kernelRun0_A.sl.r_34 c arg0 harg0 arg1 harg1 arg2 harg2 arg3 harg3 arg4 harg4 arg9 harg9 arg10 harg10 arg11 harg11 x0 x1 x2 x3 x4 x9 x10 x11) := rfl

theorem kn_eq : kernelRun0_A.sl.r_37 c arg0 harg0 arg1 harg1 arg2 harg2 arg3 harg3 arg4 harg4 arg5 harg5 arg6 harg6 arg7 harg7 arg8 harg8 x0 x1 x2 x3 x4 x5 x6 x7 x8
    = unitK (kernelRun0_A.sl.r_23 c arg0 harg0 arg1 harg1 arg2 harg2 arg3 harg3 arg4 harg4 arg5 harg5 arg6 harg6 arg7 harg7 arg8 harg8 x0 x1 x2 x3 x4 x5 x6 x7 x8) := rfl

/-- The nine planes, by the place in the window, as the kernel names them. -/
def planes : ℕ → ℕ → FVec Ideal S4096x128 .f32
  | 0, 0 => kernelRun0_A.sl.r_38 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11
  | 0, 1 => kernelRun0_A.sl.r_39 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11
  | 0, 2 => kernelRun0_A.sl.r_40 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11
  | 1, 0 => kernelRun0_A.sl.r_42 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11
  | 1, 1 => kernelRun0_A.sl.r_43 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11
  | 1, 2 => kernelRun0_A.sl.r_44 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11
  | 2, 0 => kernelRun0_A.sl.r_45 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11
  | 2, 1 => kernelRun0_A.sl.r_46 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11
  | _, _ => kernelRun0_A.sl.r_47 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11

/-- The unit queries and unit keys as images. -/
def qUnit : Img 64 := unit (conv1 (resblock (img (headK x0 x1 x2 x3 x4)) (taps x9) (taps x10)) fun o c => x11 (ix2 o c))
def kUnit : Img 64 := unit (bias (conv1 (resblock (img (headK x0 x1 x2 x3 x4)) (taps x5) (taps x6)) fun o c => x7 (ix2 o c)) fun c => x8 (ix2 0 c))

theorem qUnit_eq : img (unitK (kernelRun0_A.sl.r_34 c arg0 harg0 arg1 harg1 arg2 harg2 arg3 harg3 arg4 harg4 arg9 harg9 arg10 harg10 arg11 harg11 x0 x1 x2 x3 x4 x9 x10 x11)) = qUnit x0 x1 x2 x3 x4 x9 x10 x11 := by
  rw [unitK_eq, q_eq, times_eq, resblockK_eq]; rfl

theorem kUnit_eq : img (unitK (kernelRun0_A.sl.r_23 c arg0 harg0 arg1 harg1 arg2 harg2 arg3 harg3 arg4 harg4 arg5 harg5 arg6 harg6 arg7 harg7 arg8 harg8 x0 x1 x2 x3 x4 x5 x6 x7 x8)) = kUnit x0 x1 x2 x3 x4 x5 x6 x7 x8 := by
  rw [unitK_eq, k_eq, biasK_eq, times_eq, resblockK_eq]; rfl

/-- Plane `(a, b)` is the affinity with the neighbour there, on every channel of the state. -/
theorem planes_eq (a b : Fin 3) (p : Fin 4096) (ch : Fin 128) :
    planes c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11 a b (ix2 p ch)
      = plane (qUnit x0 x1 x2 x3 x4 x9 x10 x11) (kUnit x0 x1 x2 x3 x4 x5 x6 x7 x8) a b p := by
  rw [← qUnit_eq c arg0 harg0 arg1 harg1 arg2 harg2 arg3 harg3 arg4 harg4 arg9 harg9 arg10 harg10 arg11 harg11 x0 x1 x2 x3 x4 x9 x10 x11, ← kUnit_eq c arg0 harg0 arg1 harg1 arg2 harg2 arg3 harg3 arg4 harg4 arg5 harg5 arg6 harg6 arg7 harg7 arg8 harg8 x0 x1 x2 x3 x4 x5 x6 x7 x8]
  generalize hQ : unitK (kernelRun0_A.sl.r_34 c arg0 harg0 arg1 harg1 arg2 harg2 arg3 harg3 arg4 harg4 arg9 harg9 arg10 harg10 arg11 harg11 x0 x1 x2 x3 x4 x9 x10 x11) = q
  generalize hK : unitK (kernelRun0_A.sl.r_23 c arg0 harg0 arg1 harg1 arg2 harg2 arg3 harg3 arg4 harg4 arg5 harg5 arg6 harg6 arg7 harg7 arg8 harg8 x0 x1 x2 x3 x4 x5 x6 x7 x8) = k
  have key : ∃ y, planes c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11 a b = planeK q y ∧ img y = tap a b (img k) := by
    subst hQ hK
    match a, b with
    | 0, 0 => exact ⟨_, (rfl : planes c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11 0 0 = planeK (unitK (kernelRun0_A.sl.r_34 c arg0 harg0 arg1 harg1 arg2 harg2 arg3 harg3 arg4 harg4 arg9 harg9 arg10 harg10 arg11 harg11 x0 x1 x2 x3 x4 x9 x10 x11)) (masked 0 0 (roll 4031 65 rfl (unitK (kernelRun0_A.sl.r_23 c arg0 harg0 arg1 harg1 arg2 harg2 arg3 harg3 arg4 harg4 arg5 harg5 arg6 harg6 arg7 harg7 arg8 harg8 x0 x1 x2 x3 x4 x5 x6 x7 x8))))), rolled_once 0 0 4031 65 rfl rfl _⟩
    | 0, 1 => exact ⟨_, (rfl : planes c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11 0 1 = planeK (unitK (kernelRun0_A.sl.r_34 c arg0 harg0 arg1 harg1 arg2 harg2 arg3 harg3 arg4 harg4 arg9 harg9 arg10 harg10 arg11 harg11 x0 x1 x2 x3 x4 x9 x10 x11)) (masked 0 1 (roll 4032 64 rfl (unitK (kernelRun0_A.sl.r_23 c arg0 harg0 arg1 harg1 arg2 harg2 arg3 harg3 arg4 harg4 arg5 harg5 arg6 harg6 arg7 harg7 arg8 harg8 x0 x1 x2 x3 x4 x5 x6 x7 x8))))), rolled_once 0 1 4032 64 rfl rfl _⟩
    | 0, 2 => exact ⟨_, (rfl : planes c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11 0 2 = planeK (unitK (kernelRun0_A.sl.r_34 c arg0 harg0 arg1 harg1 arg2 harg2 arg3 harg3 arg4 harg4 arg9 harg9 arg10 harg10 arg11 harg11 x0 x1 x2 x3 x4 x9 x10 x11)) (masked 0 2 (roll 4033 63 rfl (unitK (kernelRun0_A.sl.r_23 c arg0 harg0 arg1 harg1 arg2 harg2 arg3 harg3 arg4 harg4 arg5 harg5 arg6 harg6 arg7 harg7 arg8 harg8 x0 x1 x2 x3 x4 x5 x6 x7 x8))))), rolled_once 0 2 4033 63 rfl rfl _⟩
    | 1, 0 => exact ⟨_, (rfl : planes c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11 1 0 = planeK (unitK (kernelRun0_A.sl.r_34 c arg0 harg0 arg1 harg1 arg2 harg2 arg3 harg3 arg4 harg4 arg9 harg9 arg10 harg10 arg11 harg11 x0 x1 x2 x3 x4 x9 x10 x11)) (masked 1 0 (roll 4095 1 rfl (unitK (kernelRun0_A.sl.r_23 c arg0 harg0 arg1 harg1 arg2 harg2 arg3 harg3 arg4 harg4 arg5 harg5 arg6 harg6 arg7 harg7 arg8 harg8 x0 x1 x2 x3 x4 x5 x6 x7 x8))))), rolled_once 1 0 4095 1 rfl rfl _⟩
    | 1, 1 => exact ⟨_, (rfl : planes c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11 1 1 = planeK (unitK (kernelRun0_A.sl.r_34 c arg0 harg0 arg1 harg1 arg2 harg2 arg3 harg3 arg4 harg4 arg9 harg9 arg10 harg10 arg11 harg11 x0 x1 x2 x3 x4 x9 x10 x11)) (masked 1 1 (unitK (kernelRun0_A.sl.r_23 c arg0 harg0 arg1 harg1 arg2 harg2 arg3 harg3 arg4 harg4 arg5 harg5 arg6 harg6 arg7 harg7 arg8 harg8 x0 x1 x2 x3 x4 x5 x6 x7 x8)))), unrolled _⟩
    | 1, 2 => exact ⟨_, (rfl : planes c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11 1 2 = planeK (unitK (kernelRun0_A.sl.r_34 c arg0 harg0 arg1 harg1 arg2 harg2 arg3 harg3 arg4 harg4 arg9 harg9 arg10 harg10 arg11 harg11 x0 x1 x2 x3 x4 x9 x10 x11)) (masked 1 2 (roll 1 4095 rfl (unitK (kernelRun0_A.sl.r_23 c arg0 harg0 arg1 harg1 arg2 harg2 arg3 harg3 arg4 harg4 arg5 harg5 arg6 harg6 arg7 harg7 arg8 harg8 x0 x1 x2 x3 x4 x5 x6 x7 x8))))), rolled_once 1 2 1 4095 rfl rfl _⟩
    | 2, 0 => exact ⟨_, (rfl : planes c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11 2 0 = planeK (unitK (kernelRun0_A.sl.r_34 c arg0 harg0 arg1 harg1 arg2 harg2 arg3 harg3 arg4 harg4 arg9 harg9 arg10 harg10 arg11 harg11 x0 x1 x2 x3 x4 x9 x10 x11)) (masked 2 0 (roll 63 4033 rfl (unitK (kernelRun0_A.sl.r_23 c arg0 harg0 arg1 harg1 arg2 harg2 arg3 harg3 arg4 harg4 arg5 harg5 arg6 harg6 arg7 harg7 arg8 harg8 x0 x1 x2 x3 x4 x5 x6 x7 x8))))), rolled_once 2 0 63 4033 rfl rfl _⟩
    | 2, 1 => exact ⟨_, (rfl : planes c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11 2 1 = planeK (unitK (kernelRun0_A.sl.r_34 c arg0 harg0 arg1 harg1 arg2 harg2 arg3 harg3 arg4 harg4 arg9 harg9 arg10 harg10 arg11 harg11 x0 x1 x2 x3 x4 x9 x10 x11)) (masked 2 1 (roll 64 4032 rfl (unitK (kernelRun0_A.sl.r_23 c arg0 harg0 arg1 harg1 arg2 harg2 arg3 harg3 arg4 harg4 arg5 harg5 arg6 harg6 arg7 harg7 arg8 harg8 x0 x1 x2 x3 x4 x5 x6 x7 x8))))), rolled_once 2 1 64 4032 rfl rfl _⟩
    | 2, 2 => exact ⟨_, (rfl : planes c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11 2 2 = planeK (unitK (kernelRun0_A.sl.r_34 c arg0 harg0 arg1 harg1 arg2 harg2 arg3 harg3 arg4 harg4 arg9 harg9 arg10 harg10 arg11 harg11 x0 x1 x2 x3 x4 x9 x10 x11)) (masked 2 2 (roll 65 4031 rfl (unitK (kernelRun0_A.sl.r_23 c arg0 harg0 arg1 harg1 arg2 harg2 arg3 harg3 arg4 harg4 arg5 harg5 arg6 harg6 arg7 harg7 arg8 harg8 x0 x1 x2 x3 x4 x5 x6 x7 x8))))), rolled_once 2 2 65 4031 rfl rfl _⟩
  obtain ⟨y, e, hy⟩ := key
  rw [e, planeK_eq a b q k y hy]

end

end Cert.KV

end
-- ==== Proof.KernelLoop.lean ====
/- The kernel's 32 rounds on its padded scratch: 72 rows of zeros, the state, 72 rows of zeros. Every round reads the
   nine shifted copies of the state, adds them weighted by the planes, and writes the normalised sum back. -/
module

public import proofs.«01_k».proof.Proof.KernelFeatures
public import Idealize.ShloMosaic.Lib.Writes

@[expose] public section

set_option maxRecDepth 16384

noncomputable section

namespace Cert.KV

open Idealize.ShloMosaic Cert.KernelIdeal Cert.KernelIdeal.Gen Cert.KernelIdeal.Facts Cert.Scene

/-- What a padded scratch of 4240 rows is to hold at row `r`. -/
def padded (S : Img 128) (r : ℕ) (c : Fin 128) : EReal := if h : 72 ≤ r ∧ r - 72 < 4096 then S ⟨r - 72, h.2⟩ c else 0

/-- The stores `L` leave the state `S` between two margins of zeros. -/
def PadOk (L : List (View.Piece (Elt Ideal) S4240x128 .f32)) (S : Img 128) : Prop :=
  ∀ (r : Fin 4240) (c : Fin 128), View.canon L (ix2 r c) = padded S r c

/-- A store of `n` rows from row `o` on, read at a row. -/
theorem canon_rows (o n : ℕ) (inb : ∀ a, (![o, 0] : Fin 2 → ℕ) a + (⟨2, ![n, 128]⟩ : Shape).size a ≤ S4240x128.size a)
    (w : FVec Ideal ⟨2, ![n, 128]⟩ .f32) (L : List (View.Piece (Elt Ideal) S4240x128 .f32)) (r : Fin 4240) (c : Fin 128) :
    View.canon ((⟨Rect.unit (s := S4240x128) ![o, 0] (⟨2, ![n, 128]⟩ : Shape).size inb, w⟩ : View.Piece (Elt Ideal) S4240x128 .f32) :: L) (ix2 r c)
      = if h : o ≤ r.val ∧ r.val - o < n then w (ix2 ⟨r.val - o, h.2⟩ c) else View.canon L (ix2 r c) := by
  split
  · rename_i h
    have e : (Rect.unit (s := S4240x128) ![o, 0] (⟨2, ![n, 128]⟩ : Shape).size inb).emb (ix2 ⟨r.val - o, h.2⟩ c) = (ix2 r c : S4240x128.Idx) := by
      funext a
      match a with
      | ⟨0, _⟩ => exact Fin.ext (by show o + 1 * (r.val - o) = r.val; omega)
      | ⟨1, _⟩ => exact Fin.ext (by show 0 + 1 * c.val = c.val; omega)
    rw [← e]
    exact View.canon_cons_emb (Rect.unit (s := S4240x128) ![o, 0] (⟨2, ![n, 128]⟩ : Shape).size inb) w L _
  · rename_i h
    exact View.canon_cons_of_not_mem _ L (Rect.not_mem_set_of_axis _ _ 0 o n rfl rfl rfl (by
      show r.val < o ∨ o + n ≤ r.val
      omega))

/-- A load of 4096 rows from row `o` on, of a padded scratch. -/
theorem PadOk.load {L : List (View.Piece (Elt Ideal) S4240x128 .f32)} {S : Img 128} (h : PadOk L S) {sp : Space}
    (v : View sig .tc sp S4240x128 .f32) (o : ℕ) (ho : o ≤ 144)
    (inb : ∀ a, (![o, 0] : Fin 2 → ℕ) a + S4096x128.size a ≤ S4240x128.size a) (p : Fin 4096) (c : Fin 128) :
    v.readCov L (Rect.unit (s := S4240x128) ![o, 0] S4096x128.size inb).toLoadRect (ix2 p c) = padded S (o + p.val) c := by
  rw [View.readCov_eq_canon', ← h ⟨o + p.val, by omega⟩ c]
  refine congrArg (View.canon L) (funext fun a => ?_)
  match a with
  | ⟨0, _⟩ => exact Fin.ext (by show o + 1 * p.val = o + p.val; omega)
  | ⟨1, _⟩ => exact Fin.ext (by show 0 + 1 * c.val = c.val; omega)

/-- A weighted load is the weighted neighbour's state: where there is no neighbour, the weight is zero. -/
theorem PadOk.term {L : List (View.Piece (Elt Ideal) S4240x128 .f32)} {S : Img 128} (h : PadOk L S) {sp : Space}
    (v : View sig .tc sp S4240x128 .f32) (a b : Fin 3) (o : ℕ) (ho : o = 7 + 64 * a.val + b.val)
    (inb : ∀ a, (![o, 0] : Fin 2 → ℕ) a + S4096x128.size a ≤ S4240x128.size a) (Q K : Img 64) (w : FVec Ideal S4096x128 .f32)
    (hw : ∀ (p : Fin 4096) (c : Fin 128), w (ix2 p c) = plane Q K a b p) (p : Fin 4096) (c : Fin 128) :
    img (mulf w (v.readCov L (Rect.unit (s := S4240x128) ![o, 0] S4096x128.size inb).toLoadRect)) p c = plane Q K a b p * tap a b S p c := by
  have e : img (mulf w (v.readCov L (Rect.unit (s := S4240x128) ![o, 0] S4096x128.size inb).toLoadRect)) p c
      = w (ix2 p c) * v.readCov L (Rect.unit (s := S4240x128) ![o, 0] S4096x128.size inb).toLoadRect (ix2 p c) := rfl
  rw [e, hw, h.load v o (by omega)]
  by_cases hn : Near a b p
  · have hl := hn.lt
    have hn' := hn
    unfold Near at hn'
    unfold tap padded
    rw [dif_pos hn, dif_pos (by omega)]
    refine congrArg (fun i => plane Q K a b p * S i c) (Fin.ext ?_)
    show o + p.val - 72 = p.val + 64 * a.val + b.val - 65
    omega
  · rw [plane_far hn, zero_mul, zero_mul]

/-- What a round writes: the normalised sum of the nine weighted loads. -/
def roundK {sp : Space} (v : View sig .tc sp S4240x128 .f32) (w : ℕ → ℕ → FVec Ideal S4096x128 .f32)
    (L : List (View.Piece (Elt Ideal) S4240x128 .f32)) : FVec Ideal S4096x128 .f32 :=
  shapeCast S4096x128 (unitK (addf (addf (addf (addf (addf (addf (addf (addf (mulf (w 0 0) (v.readCov L (Rect.unit (s := S4240x128) ![7, 0] S4096x128.size inb_S4240x128_S4096x128_7_0).toLoadRect))
      (mulf (w 0 1) (v.readCov L (Rect.unit (s := S4240x128) ![8, 0] S4096x128.size inb_S4240x128_S4096x128_8_0).toLoadRect)))
      (mulf (w 0 2) (v.readCov L (Rect.unit (s := S4240x128) ![9, 0] S4096x128.size inb_S4240x128_S4096x128_9_0).toLoadRect)))
      (mulf (w 1 0) (v.readCov L (Rect.unit (s := S4240x128) ![71, 0] S4096x128.size inb_S4240x128_S4096x128_71_0).toLoadRect)))
      (mulf (w 1 1) (v.readCov L (Rect.unit (s := S4240x128) ![72, 0] S4096x128.size inb_S4240x128_S4096x128_72_0).toLoadRect)))
      (mulf (w 1 2) (v.readCov L (Rect.unit (s := S4240x128) ![73, 0] S4096x128.size inb_S4240x128_S4096x128_73_0).toLoadRect)))
      (mulf (w 2 0) (v.readCov L (Rect.unit (s := S4240x128) ![135, 0] S4096x128.size inb_S4240x128_S4096x128_135_0).toLoadRect)))
      (mulf (w 2 1) (v.readCov L (Rect.unit (s := S4240x128) ![136, 0] S4096x128.size inb_S4240x128_S4096x128_136_0).toLoadRect)))
      (mulf (w 2 2) (v.readCov L (Rect.unit (s := S4240x128) ![137, 0] S4096x128.size inb_S4240x128_S4096x128_137_0).toLoadRect)))) shapeCasts_S4096x128_S4096x128

/-- One round keeps the margins and takes the state one round on. -/
theorem PadOk.next {L : List (View.Piece (Elt Ideal) S4240x128 .f32)} {S : Img 128} (h : PadOk L S) {sp : Space}
    (v : View sig .tc sp S4240x128 .f32) (w : ℕ → ℕ → FVec Ideal S4096x128 .f32) (Q K : Img 64)
    (hw : ∀ (a b : Fin 3) (p : Fin 4096) (c : Fin 128), w a b (ix2 p c) = plane Q K a b p) :
    PadOk (⟨Rect.unit (s := S4240x128) ![72, 0] S4096x128.size inb_S4240x128_S4096x128_72_0, roundK v w L⟩ :: L) (round Q K S) := by
  have hi : img (roundK v w L) = round Q K S := by
    unfold roundK Scene.round
    rw [shapeCast_self, unitK_eq]
    refine congrArg unit (funext fun p => funext fun c => ?_)
    unfold gatherAll
    rw [sum_nine' fun a b => plane Q K a b p * tap a b S p c]
    rw [← h.term v 0 0 7 rfl inb_S4240x128_S4096x128_7_0 Q K _ (hw 0 0) p c]
    rw [← h.term v 0 1 8 rfl inb_S4240x128_S4096x128_8_0 Q K _ (hw 0 1) p c]
    rw [← h.term v 0 2 9 rfl inb_S4240x128_S4096x128_9_0 Q K _ (hw 0 2) p c]
    rw [← h.term v 1 0 71 rfl inb_S4240x128_S4096x128_71_0 Q K _ (hw 1 0) p c]
    rw [← h.term v 1 1 72 rfl inb_S4240x128_S4096x128_72_0 Q K _ (hw 1 1) p c]
    rw [← h.term v 1 2 73 rfl inb_S4240x128_S4096x128_73_0 Q K _ (hw 1 2) p c]
    rw [← h.term v 2 0 135 rfl inb_S4240x128_S4096x128_135_0 Q K _ (hw 2 0) p c]
    rw [← h.term v 2 1 136 rfl inb_S4240x128_S4096x128_136_0 Q K _ (hw 2 1) p c]
    rw [← h.term v 2 2 137 rfl inb_S4240x128_S4096x128_137_0 Q K _ (hw 2 2) p c]
    rfl
  intro r c
  rw [canon_rows 72 4096]
  unfold padded
  split
  · rw [← hi]; rfl
  · rename_i hr
    rw [h r c]
    unfold padded
    rw [dif_neg hr]

section
variable (c : Dev nD) (arg0 : Memref sig .tc .vmem S4096x3 .f32) (harg0 : arg0.IsWhole) (arg1 : Memref sig .tc .vmem S9x64x3 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S9x64x64 .f32) (harg5 : arg5.IsWhole) (arg6 : Memref sig .tc .vmem S9x64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S9x64x64 .f32) (harg9 : arg9.IsWhole) (arg10 : Memref sig .tc .vmem S9x64x64 .f32) (harg10 : arg10.IsWhole) (arg11 : Memref sig .tc .vmem S64x64 .f32) (harg11 : arg11.IsWhole) (arg12 : Memref sig .tc .vmem S4096x128 .f32) (harg12 : arg12.IsWhole) (arg14 : Memref sig .tc .vmem S4240x128 .f32)
  (x0 : Vec Ideal S4096x3 .f32) (x1 : Vec Ideal S9x64x3 .f32) (x2 : Vec Ideal S1x64 .f32) (x3 : Vec Ideal S64x64 .f32) (x4 : Vec Ideal S1x64 .f32) (x5 : Vec Ideal S9x64x64 .f32) (x6 : Vec Ideal S9x64x64 .f32) (x7 : Vec Ideal S64x64 .f32) (x8 : Vec Ideal S1x64 .f32) (x9 : Vec Ideal S9x64x64 .f32) (x10 : Vec Ideal S9x64x64 .f32) (x11 : Vec Ideal S64x64 .f32) (x12 : Vec Ideal S4096x128 .f32)

/-- Before the rounds: two margins of zeros and the initial state. -/
theorem pad_start : PadOk (kernelRun0_A.sl.HS0_3 c arg12 harg12 x12) (img x12) := by
  have z63 : ∀ i, (k0_pay63 (F := Ideal) k0_pay62 i : EReal) = 0 := by intro i; pointwise [k0_pay63, k0_pay62]
  have z64 : ∀ i, (k0_pay64 (F := Ideal) i : EReal) = 0 := by intro i; pointwise [k0_pay64]
  have e : k0_pay65 (View.readAt (Elt Ideal) arg12.view (Rect.unit ![0, 0] S4096x128.size inb_S4096x128_S4096x128_0_0).toLoadRect (harg12.unread x12)) = x12 := by
    unfold k0_pay65
    exact (shapeCast_self (s := S4096x128) _ shapeCasts_S4096x128_S4096x128).trans (loaded harg12 x12 z2 _ _)
  intro r ch
  unfold kernelRun0_A.sl.HS0_3
  rw [e]
  refine (canon_rows 72 4096 _ _ _ r ch).trans ?_
  unfold padded
  split
  · rfl
  · rename_i hr
    refine (canon_rows 4168 72 _ _ _ r ch).trans ?_
    split
    · exact z64 _
    · rename_i hr'
      refine (canon_rows 0 72 _ _ _ r ch).trans ?_
      rw [dif_pos (by omega)]
      exact z63 _

/-- After the 32 rounds. -/
theorem pad_end : PadOk (kernelRun0_A.sl.HS0_35 c arg0 harg0 arg1 harg1 arg2 harg2 arg3 harg3 arg4 harg4 arg5 harg5 arg6 harg6 arg7 harg7 arg8 harg8 arg9 harg9 arg10 harg10 arg11 harg11 arg12 harg12 arg14 x0 x1 x2 x3 x4 x5 x6 x7 x8 x9 x10 x11 x12)
    ((round (qUnit x0 x1 x2 x3 x4 x9 x10 x11) (kUnit x0 x1 x2 x3 x4 x5 x6 x7 x8))^[32] (img x12)) := by
  have nx : ∀ (L : List (View.Piece (Elt Ideal) S4240x128 .f32)) (w : FVec Ideal S4096x128 .f32) (S : Img 128), PadOk L S →
      w = roundK arg14.view (planes c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) L →
      PadOk (⟨Rect.unit (s := S4240x128) ![72, 0] S4096x128.size inb_S4240x128_S4096x128_72_0, w⟩ :: L)
        (round (qUnit x0 x1 x2 x3 x4 x9 x10 x11) (kUnit x0 x1 x2 x3 x4 x5 x6 x7 x8) S) := by
    intro L w S h e
    rw [e]
    exact h.next arg14.view _ _ _ (planes_eq c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11)
  iterate 32
    rw [Function.iterate_succ_apply']
    refine nx _ _ _ ?_ (by rfl)
  exact pad_start c arg12 harg12 x12

end

end Cert.KV

end
-- ==== Proof.KernelTail.lean ====
/- What the kernel makes of the last state: the agents are picked by a product with a 0/1 array, every pixel is compared
   with every agent, and a softmax over the agents is taken. -/
module

public import proofs.«01_k».proof.Proof.KernelOps

@[expose] public section

set_option maxRecDepth 16384

noncomputable section

namespace Cert.KV

open Idealize.ShloMosaic Cert.KernelIdeal Cert.KernelIdeal.Gen Cert.KernelIdeal.Facts Cert.Scene

/-- The 0/1 array that picks the agents' rows. -/
def pick : FVec Ideal S4096x16 .f32 := sitofp .f32 (extui 32 k0_pay138 natLt_1_32)

theorem pick_word (m : Fin 16) (p : Fin 4096) :
    ((IntOp.cmpi .eq (BitVec.ofNat 32 p) (BitVec.ofNat 32 m * 273#32)).setWidth 32).toInt = if agent m = p then 1 else 0 := by
  have e : (BitVec.ofNat 32 m * 273#32) = BitVec.ofNat 32 (273 * m.val) := by revert m; decide +kernel
  have hm := m.isLt
  have hp := p.isLt
  rw [e]
  by_cases h : agent m = p
  · rw [if_pos h, ← h]
    show (BitVec.setWidth 32 (BitVec.ofBool (decide (BitVec.ofNat 32 (273 * m.val) = BitVec.ofNat 32 (273 * m.val))))).toInt = 1
    rw [decide_eq_true rfl]; rfl
  · rw [if_neg h]
    show (BitVec.setWidth 32 (BitVec.ofBool (decide (BitVec.ofNat 32 p.val = BitVec.ofNat 32 (273 * m.val))))).toInt = 0
    rw [decide_eq_false (fun hh => h (Fin.ext (by
      have h2 := congrArg BitVec.toNat hh
      rw [BitVec.toNat_ofNat, BitVec.toNat_ofNat] at h2
      show 273 * m.val = p.val
      omega)))]; rfl

theorem pick_at (p : Fin 4096) (m : Fin 16) : pick (ix2 p m) = (if agent m = p then 1 else 0 : EReal) := by
  have h : pick (ix2 p m) = ((((IntOp.cmpi .eq (BitVec.ofNat 32 p) (BitVec.ofNat 32 m * 273#32)).setWidth 32).toInt : ℝ) : EReal) := by
    pointwise [pick, k0_pay138]
    rfl
  rw [h, pick_word]
  split <;> simp

/-- The agents' states. -/
def agents (S : FVec Ideal S4096x128 .f32) : FVec Ideal S16x128 .f32 :=
  matmul dot_S4096x16_S4096x128_S16x128_0_0_1_1_n_n none pick S (constant S16x128 .f32 0x00000000#32)

theorem agents_at (S : FVec Ideal S4096x128 .f32) (m : Fin 16) (c : Fin 128) : agents S (ix2 m c) = img S (agent m) c := by
  have h0 : (constant (F := Ideal) S16x128 .f32 0x00000000#32) (ix2 m c) = (0 : EReal) := by pointwise
  refine (Idealize.ShloMosaic.Ideal.matmul_apply₁_of dot_S4096x16_S4096x128_S16x128_0_0_1_1_n_n (a := 0) rfl (K := 4096) rfl pick S _ (ix2 m c)
    (fun p => ix2 p m) (fun p => ix2 p c) (fun p => funext fun a => match a with
      | ⟨0, _⟩ => rfl
      | ⟨1, _⟩ => rfl)
    (fun p => funext fun a => match a with
      | ⟨0, _⟩ => rfl
      | ⟨1, _⟩ => rfl)).trans ?_
  rw [h0, zero_add, Finset.sum_eq_single (agent m)]
  · rw [pick_at, if_pos rfl, one_mul]; rfl
  · intro p _ hp
    rw [pick_at, if_neg (Ne.symm hp), zero_mul]
  · intro h; exact absurd (Finset.mem_univ _) h

theorem logits_eq (S : FVec Ideal S4096x128 .f32) : img (times S (agents S)) = logits (img S) := by
  funext p m
  refine (times_at S (agents S) p m).trans ?_
  exact Finset.sum_congr rfl fun c _ => by rw [agents_at]

/-- The greatest value of every pixel, as one column. -/
def topK (x : FVec Ideal S4096x16 .f32) : FVec Ideal S4096x1 .f32 :=
  shapeCast S4096x1 (multiReduction .maximumf [1] S4096 x 0xFF800000#32 reduces_S4096x16_S4096 (.inl rfl) rfl) shapeCasts_S4096_S4096x1

theorem topK_at (x : FVec Ideal S4096x16 .f32) (p : Fin 4096) : topK x (ix2 p 0) = top (img x) p := by
  have hb : (Scalar.ofBits (F := Ideal) .f32 0xFF800000#32 : EReal) = ⊥ := by
    show Idealize.ShloMosaic.Ideal.ofBits .f32 0xFF800000#32 = ⊥
    simp [Idealize.ShloMosaic.Ideal.ofBits, Idealize.ShloMosaic.Ideal.ieee]
  unfold topK
  rw [shapeCast_apply _ shapeCasts_S4096_S4096x1 (ix2 p 0) (ix1 p) (by
    rw [Shape.rowMajor_val_one, Shape.rowMajor_val_two]
    show p.val = p.val * 1 + 0
    omega)]
  refine (multiReduction_maximumf_eq_fold x _ reduces_S4096x16_S4096 (.inl rfl) rfl (ix1 p)).trans ?_
  refine (Shape.Reduces.fold_fiber_r2_a1 reduces_S4096x16_S4096 (ix1 p) _ _ x).trans ?_
  exact congrArg (fun b : EReal => Finset.fold max b (fun m => img x p m) Finset.univ) hb

/-- The softmax as the kernel takes it. -/
def softmaxK (x : FVec Ideal S4096x16 .f32) : FVec Ideal S4096x16 .f32 :=
  divf (exp (subf x (broadcastTo S4096x16 (topK x) broadcasts_S4096x1_S4096x16)))
    (broadcastTo S4096x16 (across (exp (subf x (broadcastTo S4096x16 (topK x) broadcasts_S4096x1_S4096x16)))) broadcasts_S4096x1_S4096x16)

theorem exp_at (x : FVec Ideal S4096x16 .f32) (p : Fin 4096) (m : Fin 16) :
    img (exp (subf x (broadcastTo S4096x16 (topK x) broadcasts_S4096x1_S4096x16))) p m
      = Idealize.ShloMosaic.Ideal.exp (img x p m - top (img x) p) := by
  rw [← topK_at, ← col_stretch_at (topK x) broadcasts_S4096x1_S4096x16 p m]; rfl

theorem softmaxK_eq (x : FVec Ideal S4096x16 .f32) : img (softmaxK x) = softmax (img x) := by
  funext p m
  have e : img (softmaxK x) p m = Idealize.ShloMosaic.Ideal.div
      (img (exp (subf x (broadcastTo S4096x16 (topK x) broadcasts_S4096x1_S4096x16))) p m)
      (broadcastTo S4096x16 (across (exp (subf x (broadcastTo S4096x16 (topK x) broadcasts_S4096x1_S4096x16)))) broadcasts_S4096x1_S4096x16 (ix2 p m)) := rfl
  rw [e, col_stretch_at, across_at, exp_at]
  unfold softmax
  exact congrArg _ (Finset.sum_congr rfl fun k _ => exp_at x p k)

/-- The kernel's last stretch. -/
theorem tail_eq (S : FVec Ideal S4096x128 .f32) : img (k0_pay1 S k0_pay138) = softmax (logits (img S)) := by
  have e : k0_pay1 S k0_pay138 = softmaxK (times S (agents S)) := rfl
  rw [e, softmaxK_eq, logits_eq]

end Cert.KV

end
-- ==== Proof.KernelBody.lean ====
/- What the kernel's body leaves in its output: the network's result from the arrays it was given. -/
module

public import proofs.«01_k».proof.Proof.KernelLoop
public import proofs.«01_k».proof.Proof.KernelTail
public import Idealize.ShloMosaic.Lib.Pipeline.ValueKit.Acc

@[expose] public section

set_option maxRecDepth 16384

noncomputable section

namespace Cert.KV

open Idealize.ShloMosaic Cert.KernelIdeal Cert.KernelIdeal.Gen Cert.KernelIdeal.Facts Cert.Scene

/-- The middle rows of the scratch are the state. -/
theorem PadOk.state {L : List (View.Piece (Elt Ideal) S4240x128 .f32)} {S : Img 128} (h : PadOk L S) {sp : Space}
    (v : View sig .tc sp S4240x128 .f32) :
    img (v.readCov L (Rect.unit (s := S4240x128) ![72, 0] S4096x128.size inb_S4240x128_S4096x128_72_0).toLoadRect) = S := by
  funext p c
  refine (h.load v 72 (by omega) inb_S4240x128_S4096x128_72_0 p c).trans ?_
  unfold padded
  rw [dif_pos (by omega)]
  exact congrArg (fun i => S i c) (Fin.ext (by show 72 + p.val - 72 = p.val; omega))

section
variable (c : Dev nD) (arg0 : Memref sig .tc .vmem S4096x3 .f32) (harg0 : arg0.IsWhole) (arg1 : Memref sig .tc .vmem S9x64x3 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S9x64x64 .f32) (harg5 : arg5.IsWhole) (arg6 : Memref sig .tc .vmem S9x64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S9x64x64 .f32) (harg9 : arg9.IsWhole) (arg10 : Memref sig .tc .vmem S9x64x64 .f32) (harg10 : arg10.IsWhole) (arg11 : Memref sig .tc .vmem S64x64 .f32) (harg11 : arg11.IsWhole) (arg12 : Memref sig .tc .vmem S4096x128 .f32) (harg12 : arg12.IsWhole) (arg13 : Memref sig Kind.tc Space.vmem S4096x16 .f32) (harg13 : arg13.IsWhole) (arg14 : Memref sig .tc .vmem S4240x128 .f32)
  (x0 : Vec Ideal S4096x3 .f32) (x1 : Vec Ideal S9x64x3 .f32) (x2 : Vec Ideal S1x64 .f32) (x3 : Vec Ideal S64x64 .f32) (x4 : Vec Ideal S1x64 .f32) (x5 : Vec Ideal S9x64x64 .f32) (x6 : Vec Ideal S9x64x64 .f32) (x7 : Vec Ideal S64x64 .f32) (x8 : Vec Ideal S1x64 .f32) (x9 : Vec Ideal S9x64x64 .f32) (x10 : Vec Ideal S9x64x64 .f32) (x11 : Vec Ideal S64x64 .f32) (x12 : Vec Ideal S4096x128 .f32)

/-- The result from the arrays the body is given. -/
def resultOf : Img 16 :=
  result (img (headK x0 x1 x2 x3 x4)) (taps x5) (taps x6) (fun o k => x7 (ix2 o k)) (fun k => x8 (ix2 0 k))
    (taps x9) (taps x10) (fun o k => x11 (ix2 o k)) (img x12)

theorem out_eq (harg14 : arg14.IsWhole) : img (out0_A_13 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12)
    = resultOf x0 x1 x2 x3 x4 x5 x6 x7 x8 x9 x10 x11 x12 := by
  have e : out0_A_13 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12
      = k0_pay1 (kernelRun0_A.sl.v2081 c arg0 harg0 arg1 harg1 arg2 harg2 arg3 harg3 arg4 harg4 arg5 harg5 arg6 harg6 arg7 harg7 arg8 harg8 arg9 harg9 arg10 harg10 arg11 harg11 arg12 harg12 arg14 x0 x1 x2 x3 x4 x5 x6 x7 x8 x9 x10 x11 x12) k0_pay138 := by
    frame_out
  rw [e, tail_eq]
  unfold resultOf result
  refine congrArg (fun S => softmax (logits S)) ?_
  exact (pad_end c arg0 harg0 arg1 harg1 arg2 harg2 arg3 harg3 arg4 harg4 arg5 harg5 arg6 harg6 arg7 harg7 arg8 harg8 arg9 harg9 arg10 harg10 arg11 harg11 arg12 harg12 arg14 x0 x1 x2 x3 x4 x5 x6 x7 x8 x9 x10 x11 x12).state arg14.view

end

end Cert.KV

end
-- ==== Proof.Net.lean ====
/- The network as one function of its thirteen arrays: what both programs are to compute. -/
module

public import proofs.«01_k».proof.Proof.Scene

@[expose] public section

noncomputable section

namespace Cert.Scene

open Idealize.ShloMosaic

/-- An array of extended reals of rank four, of rank one. -/
abbrev A4 (a b c d : ℕ) := (⟨4, ![a, b, c, d]⟩ : Shape).Idx → EReal
abbrev A1 (a : ℕ) := (⟨1, ![a]⟩ : Shape).Idx → EReal

/-- A stored picture `[1, 64, 64, C]` by pixel and channel. -/
def picture {C : ℕ} (x : A4 1 64 64 C) : Img C := fun p c => x (ix4 0 ⟨p / 64, by omega⟩ ⟨p % 64, by omega⟩ c)

/-- Stored 3×3 weights `[O, C, 3, 3]`, 1×1 weights `[O, C, 1, 1]` and a bias `[O]`. -/
def kernel3 {O C : ℕ} (w : A4 O C 3 3) : Fin O → Fin C → Fin 3 → Fin 3 → EReal := fun o c a b => w (ix4 o c a b)
def kernel1 {O C : ℕ} (w : A4 O C 1 1) : Fin O → Fin C → EReal := fun o c => w (ix4 o c 0 0)
def offset {O : ℕ} (b : A1 O) : Fin O → EReal := fun o => b (ix1 o)

/-- The network. -/
def net (x : A4 1 64 64 3) (w1 : A4 64 3 3 3) (b1 : A1 64) (w2 : A4 64 64 1 1) (b2 : A1 64) (u1 u2 : A4 64 64 3 3) (u3 : A4 64 64 1 1)
    (b3 : A1 64) (q1 q2 : A4 64 64 3 3) (q3 : A4 64 64 1 1) (s : (⟨3, ![1, 4096, 128]⟩ : Shape).Idx → EReal) : Img 16 :=
  result (head (picture x) (kernel3 w1) (offset b1) (kernel1 w2) (offset b2)) (kernel3 u1) (kernel3 u2) (kernel1 u3) (offset b3)
    (kernel3 q1) (kernel3 q2) (kernel1 q3) fun p c => s (ix3 0 p c)

/-- The network's masks as they are stored, `[1, 16, 64, 64]`. -/
def stored (R : Img 16) : A4 1 16 64 64 := fun i => R ⟨(i 2).val * 64 + (i 3).val, by
  have h2 : (i 2).val < 64 := (i 2).isLt
  have h3 : (i 3).val < 64 := (i 3).isLt
  omega⟩ (i 1)

end Cert.Scene

end
-- ==== Proof.KernelRun.lean ====
/- The whole kernel program: its host lines reorder the weights, the kernel's body computes the network, and the host
   lines after it store the masks. -/
module

public import proofs.«01_k».proof.Proof.KernelBody
public import proofs.«01_k».proof.Proof.Net
public import Idealize.ShloMosaic.Lib.Claim
public import Idealize.ShloMosaic.Lib.Pipeline.ValueKit.Geometry

@[expose] public section

set_option maxRecDepth 16384

noncomputable section

namespace Cert.KV

open Idealize.ShloMosaic Idealize.ShloMosaic.TcCoe Idealize.SL.Sem Cert.KernelIdeal Cert.KernelIdeal.Gen Cert.KernelIdeal.Facts Cert.Scene

/-! ### The host's reordering of the arrays -/

theorem taps_stored {O C : ℕ} (w : FVec Ideal ⟨4, ![O, C, 3, 3]⟩ .f32)
    (ht : Shape.Transposes ⟨4, ![O, C, 3, 3]⟩ [2, 3, 0, 1] ⟨4, ![3, 3, O, C]⟩)
    (hc : Shape.ShapeCasts ⟨4, ![3, 3, O, C]⟩ ⟨3, ![9, O, C]⟩) :
    taps (shapeCast ⟨3, ![9, O, C]⟩ (transpose ⟨4, ![3, 3, O, C]⟩ [2, 3, 0, 1] w ht) hc) = kernel3 w := by
  funext o c a b
  unfold taps kernel3
  rw [shapeCast_apply _ hc _ (ix4 a b o c) (by
    rw [Shape.rowMajor_val_three, Shape.rowMajor_val_four]
    show ((a.val * 3 + b.val) * O + o.val) * C + c.val = ((3 * a.val + b.val) * O + o.val) * C + c.val
    rw [Nat.mul_comm 3])]
  exact transpose_apply _ w ht _ _ fun i => match i with | ⟨0, _⟩ => rfl | ⟨1, _⟩ => rfl | ⟨2, _⟩ => rfl | ⟨3, _⟩ => rfl

theorem kernel1_stored {O C : ℕ} (w : FVec Ideal ⟨4, ![O, C, 1, 1]⟩ .f32) (hc : Shape.ShapeCasts ⟨4, ![O, C, 1, 1]⟩ ⟨2, ![O, C]⟩)
    (o : Fin O) (c : Fin C) : shapeCast ⟨2, ![O, C]⟩ w hc (ix2 o c) = kernel1 w o c := by
  unfold kernel1
  rw [shapeCast_apply _ hc _ (ix4 o c 0 0) (by
    rw [Shape.rowMajor_val_two, Shape.rowMajor_val_four]
    show ((o.val * C + c.val) * 1 + 0) * 1 + 0 = o.val * C + c.val
    omega)]

theorem picture_stored {C : ℕ} (x : FVec Ideal ⟨4, ![1, 64, 64, C]⟩ .f32) (hc : Shape.ShapeCasts ⟨4, ![1, 64, 64, C]⟩ ⟨2, ![4096, C]⟩) :
    img (shapeCast ⟨2, ![4096, C]⟩ x hc) = picture x := by
  funext p c
  unfold img picture
  rw [shapeCast_apply _ hc _ (ix4 0 ⟨p / 64, by omega⟩ ⟨p % 64, by omega⟩ c) (by
    rw [Shape.rowMajor_val_two, Shape.rowMajor_val_four]
    show ((0 * 64 + p.val / 64) * 64 + p.val % 64) * C + c.val = p.val * C + c.val
    have e : (0 * 64 + p.val / 64) * 64 + p.val % 64 = p.val := by omega
    rw [e])]

theorem state_stored {C : ℕ} (x : FVec Ideal ⟨3, ![1, 4096, C]⟩ .f32) (hc : Shape.ShapeCasts ⟨3, ![1, 4096, C]⟩ ⟨2, ![4096, C]⟩) :
    img (shapeCast ⟨2, ![4096, C]⟩ x hc) = fun p c => x (ix3 0 p c) := by
  funext p c
  unfold img
  rw [shapeCast_apply _ hc _ (ix3 0 p c) (by
    rw [Shape.rowMajor_val_two, Shape.rowMajor_val_three]
    show (0 * 4096 + p.val) * C + c.val = p.val * C + c.val
    rw [Nat.zero_mul, Nat.zero_add])]

/-- A bias as one row. -/
theorem bias_stored (b : FVec Ideal S64 .f32) : (fun o : Fin 64 => broadcastInDim S1x64 ![1] bcast_S64_S1x64_1 b (ix2 0 o)) = offset b := by
  funext o
  unfold offset
  pointwise

variable (m : (ℓ : Loc nD τ sig) → Buf (Elt Ideal) ℓ) (c : Dev nD)

/-! ### The arrays the kernel's body is given -/

theorem V_v2 : V m c main_v2 = shapeCast S9x64x3 (transpose S3x3x64x3 [2, 3, 0, 1] (m ((c.tc : Thread nD τ).loc main_arg1)) transposes_S64x3x3x3_S3x3x64x3_2_3_0_1) shapeCasts_S3x3x64x3_S9x64x3 := rfl
theorem V_v7 : V m c main_v7 = shapeCast S9x64x64 (transpose S3x3x64x64 [2, 3, 0, 1] (m ((c.tc : Thread nD τ).loc main_arg5)) transposes_S64x64x3x3_S3x3x64x64_2_3_0_1) shapeCasts_S3x3x64x64_S9x64x64 := rfl
theorem V_v9 : V m c main_v9 = shapeCast S9x64x64 (transpose S3x3x64x64 [2, 3, 0, 1] (m ((c.tc : Thread nD τ).loc main_arg6)) transposes_S64x64x3x3_S3x3x64x64_2_3_0_1) shapeCasts_S3x3x64x64_S9x64x64 := rfl
theorem V_v13 : V m c main_v13 = shapeCast S9x64x64 (transpose S3x3x64x64 [2, 3, 0, 1] (m ((c.tc : Thread nD τ).loc main_arg9)) transposes_S64x64x3x3_S3x3x64x64_2_3_0_1) shapeCasts_S3x3x64x64_S9x64x64 := rfl
theorem V_v15 : V m c main_v15 = shapeCast S9x64x64 (transpose S3x3x64x64 [2, 3, 0, 1] (m ((c.tc : Thread nD τ).loc main_arg10)) transposes_S64x64x3x3_S3x3x64x64_2_3_0_1) shapeCasts_S3x3x64x64_S9x64x64 := rfl
theorem V_v3 : V m c main_v3 = broadcastInDim S1x64 ![1] bcast_S64_S1x64_1 (m ((c.tc : Thread nD τ).loc main_arg2)) := rfl
theorem V_v5 : V m c main_v5 = broadcastInDim S1x64 ![1] bcast_S64_S1x64_1 (m ((c.tc : Thread nD τ).loc main_arg4)) := rfl
theorem V_v11 : V m c main_v11 = broadcastInDim S1x64 ![1] bcast_S64_S1x64_1 (m ((c.tc : Thread nD τ).loc main_arg8)) := rfl
theorem V_v4 : V m c main_v4 = shapeCast S64x64 (m ((c.tc : Thread nD τ).loc main_arg3)) shapeCasts_S64x64x1x1_S64x64 := rfl
theorem V_v10 : V m c main_v10 = shapeCast S64x64 (m ((c.tc : Thread nD τ).loc main_arg7)) shapeCasts_S64x64x1x1_S64x64 := rfl
theorem V_v16 : V m c main_v16 = shapeCast S64x64 (m ((c.tc : Thread nD τ).loc main_arg11)) shapeCasts_S64x64x1x1_S64x64 := rfl
theorem V_v0 : V m c main_v0 = shapeCast S4096x3 (m ((c.tc : Thread nD τ).loc main_arg0)) shapeCasts_S1x64x64x3_S4096x3 := rfl
theorem V_v17 : V m c main_v17 = shapeCast S4096x128 (m ((c.tc : Thread nD τ).loc main_arg12)) shapeCasts_S1x4096x128_S4096x128 := rfl

/-- The network of the program's arguments. -/
def netOf : Img 16 := net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

theorem resultOf_eq : resultOf (V m c main_v0) (V m c main_v2) (V m c main_v3) (V m c main_v4) (V m c main_v5) (V m c main_v7) (V m c main_v9)
    (V m c main_v10) (V m c main_v11) (V m c main_v13) (V m c main_v15) (V m c main_v16) (V m c main_v17) = netOf m c := by
  have h1 : ∀ w : FVec Ideal S64x64x1x1 .f32, (fun o k : Fin 64 => shapeCast S64x64 w shapeCasts_S64x64x1x1_S64x64 (ix2 o k)) = kernel1 w :=
    fun w => funext fun o => funext fun k => kernel1_stored w _ o k
  unfold resultOf netOf net
  rw [headK_eq, V_v0, V_v2, V_v3, V_v4, V_v5, V_v7, V_v9, V_v10, V_v11, V_v13, V_v15, V_v16, V_v17, bias_stored, bias_stored, bias_stored, h1, h1, h1]
  rw [picture_stored, state_stored, taps_stored, taps_stored, taps_stored, taps_stored, taps_stored]

/-! ### The body's one block is the whole array -/

theorem iblk_0 : iblk m c 0 t0_0 = V m c main_v0 :=
  Memref.read_access_unit_zero (Elt Ideal) main_v0 (show (fun a => (win0_0.index t0_0) a * main_v0.ty.shape.size a) = fun _ => 0 from
    funext fun a => by fin_cases a <;> decide) (fun a => by fin_cases a <;> decide) _
theorem iblk_1 : iblk m c 1 t0_0 = V m c main_v2 :=
  Memref.read_access_unit_zero (Elt Ideal) main_v2 (show (fun a => (win0_1.index t0_0) a * main_v2.ty.shape.size a) = fun _ => 0 from
    funext fun a => by fin_cases a <;> decide) (fun a => by fin_cases a <;> decide) _
theorem iblk_2 : iblk m c 2 t0_0 = V m c main_v3 :=
  Memref.read_access_unit_zero (Elt Ideal) main_v3 (show (fun a => (win0_2.index t0_0) a * main_v3.ty.shape.size a) = fun _ => 0 from
    funext fun a => by fin_cases a <;> decide) (fun a => by fin_cases a <;> decide) _
theorem iblk_3 : iblk m c 3 t0_0 = V m c main_v4 :=
  Memref.read_access_unit_zero (Elt Ideal) main_v4 (show (fun a => (win0_3.index t0_0) a * main_v4.ty.shape.size a) = fun _ => 0 from
    funext fun a => by fin_cases a <;> decide) (fun a => by fin_cases a <;> decide) _
theorem iblk_4 : iblk m c 4 t0_0 = V m c main_v5 :=
  Memref.read_access_unit_zero (Elt Ideal) main_v5 (show (fun a => (win0_4.index t0_0) a * main_v5.ty.shape.size a) = fun _ => 0 from
    funext fun a => by fin_cases a <;> decide) (fun a => by fin_cases a <;> decide) _
theorem iblk_5 : iblk m c 5 t0_0 = V m c main_v7 :=
  Memref.read_access_unit_zero (Elt Ideal) main_v7 (show (fun a => (win0_5.index t0_0) a * main_v7.ty.shape.size a) = fun _ => 0 from
    funext fun a => by fin_cases a <;> decide) (fun a => by fin_cases a <;> decide) _
theorem iblk_6 : iblk m c 6 t0_0 = V m c main_v9 :=
  Memref.read_access_unit_zero (Elt Ideal) main_v9 (show (fun a => (win0_6.index t0_0) a * main_v9.ty.shape.size a) = fun _ => 0 from
    funext fun a => by fin_cases a <;> decide) (fun a => by fin_cases a <;> decide) _
theorem iblk_7 : iblk m c 7 t0_0 = V m c main_v10 :=
  Memref.read_access_unit_zero (Elt Ideal) main_v10 (show (fun a => (win0_7.index t0_0) a * main_v10.ty.shape.size a) = fun _ => 0 from
    funext fun a => by fin_cases a <;> decide) (fun a => by fin_cases a <;> decide) _
theorem iblk_8 : iblk m c 8 t0_0 = V m c main_v11 :=
  Memref.read_access_unit_zero (Elt Ideal) main_v11 (show (fun a => (win0_8.index t0_0) a * main_v11.ty.shape.size a) = fun _ => 0 from
    funext fun a => by fin_cases a <;> decide) (fun a => by fin_cases a <;> decide) _
theorem iblk_9 : iblk m c 9 t0_0 = V m c main_v13 :=
  Memref.read_access_unit_zero (Elt Ideal) main_v13 (show (fun a => (win0_9.index t0_0) a * main_v13.ty.shape.size a) = fun _ => 0 from
    funext fun a => by fin_cases a <;> decide) (fun a => by fin_cases a <;> decide) _
theorem iblk_10 : iblk m c 10 t0_0 = V m c main_v15 :=
  Memref.read_access_unit_zero (Elt Ideal) main_v15 (show (fun a => (win0_10.index t0_0) a * main_v15.ty.shape.size a) = fun _ => 0 from
    funext fun a => by fin_cases a <;> decide) (fun a => by fin_cases a <;> decide) _
theorem iblk_11 : iblk m c 11 t0_0 = V m c main_v16 :=
  Memref.read_access_unit_zero (Elt Ideal) main_v16 (show (fun a => (win0_11.index t0_0) a * main_v16.ty.shape.size a) = fun _ => 0 from
    funext fun a => by fin_cases a <;> decide) (fun a => by fin_cases a <;> decide) _
theorem iblk_12 : iblk m c 12 t0_0 = V m c main_v17 :=
  Memref.read_access_unit_zero (Elt Ideal) main_v17 (show (fun a => (win0_12.index t0_0) a * main_v17.ty.shape.size a) = fun _ => 0 from
    funext fun a => by fin_cases a <;> decide) (fun a => by fin_cases a <;> decide) _

/-- The region's array at the end. -/
theorem final_out : img ((dats m 0 c).arrAt 13 (cfgs 0).N) = netOf m c := by
  rw [← resultOf_eq m c]
  refine Eq.trans ?_ (out_eq c (ms0_0 t0_0) (hs0_0 t0_0) (ms0_1 t0_0) (hs0_1 t0_0) (ms0_2 t0_0) (hs0_2 t0_0) (ms0_3 t0_0) (hs0_3 t0_0)
    (ms0_4 t0_0) (hs0_4 t0_0) (ms0_5 t0_0) (hs0_5 t0_0) (ms0_6 t0_0) (hs0_6 t0_0) (ms0_7 t0_0) (hs0_7 t0_0) (ms0_8 t0_0) (hs0_8 t0_0)
    (ms0_9 t0_0) (hs0_9 t0_0) (ms0_10 t0_0) (hs0_10 t0_0) (ms0_11 t0_0) (hs0_11 t0_0) (ms0_12 t0_0) (hs0_12 t0_0) (ms0_13 t0_0) (hs0_13 t0_0)
    scM0_0 _ _ _ _ _ _ _ _ _ _ _ _ _ (Memref.isWhole_whole _))
  refine congrArg img ?_
  refine (dats m 0 c).arrAt_eq_of_covers 13 _ (by decide +kernel) fun t hf y => ?_
  have ht : t = t0_0 := Fin.ext (by have h1 : t.val < 1 := t.isLt; show t.val = 0; omega)
  subst ht
  rw [← iblk_0, ← iblk_1, ← iblk_2, ← iblk_3, ← iblk_4, ← iblk_5, ← iblk_6, ← iblk_7, ← iblk_8, ← iblk_9, ← iblk_10, ← iblk_11, ← iblk_12]
  blk_simp
  rw [after0_13]
  unfold outsAt0
  refine congrArg _ (funext fun a => Fin.ext ?_)
  match a with
  | ⟨0, _⟩ => show (y 0).val = 0 * 4096 + 1 * (y 0).val; omega
  | ⟨1, _⟩ => show (y 1).val = 0 * 16 + 1 * (y 1).val; omega

/-- The host lines after the region store the masks by agent, row and column. -/
theorem stored_eq (X : FVec Ideal S4096x16 .f32) :
    broadcastInDim S1x16x64x64 ![1, 2, 3] bcast_S16x64x64_S1x16x64x64_1_2_3
      (transpose S16x64x64 [2, 0, 1] (shapeCast S64x64x16 X shapeCasts_S4096x16_S64x64x16) transposes_S64x64x16_S16x64x64_2_0_1) = stored (img X) := by
  funext i
  pointwise
  rfl

theorem value_run (g : Dev nD → PrngReg) : θ_run defs (onTc (τ := τ) (main (F := Ideal))) ⟨m, fun _ => 0, g⟩ (fun r => ∀ c : Dev nD,
    r.2.mem ((c.tc : Thread nD τ).loc main_v21) = stored (netOf m c)) := by
  run_from (run_main m g)
  refine Eq.trans ?_ ((stored_eq ((dats m 0 c).arrAt 13 (cfgs 0).N)).trans (congrArg stored (final_out m c)))
  have h : Pipeline.withArrays (cfgs 0).spec c (V0 m c) (fun w => (dats m 0 c).arrAt w (cfgs 0).N) (Proc.devRef .tc main_v18)
      = (dats m 0 c).arrAt 13 (cfgs 0).N :=
    Pipeline.withArrays_arr (cfgs 0).spec (by decide) c (V0 m c) _ 13
  rw [← h]
  rfl

end Cert.KV

end
-- ==== Proof.RefOps.lean ====
/- The reference's array operations on images stored channel by channel, each as a function of the network's
   mathematics: padding and the nine shifted products, the per-channel values, the norms and the positive part. -/
module

public import proofs.«01_k».proof.Proof.Gen.ReferenceIdeal
public import proofs.«01_k».proof.Proof.Net
public import Idealize.ShloMosaic.Lib.Pointwise
public import Idealize.ShloMosaic.Lib.KernelVsHost

@[expose] public section

set_option maxRecDepth 16384

noncomputable section

namespace Cert.RV

open Idealize.ShloMosaic Cert.ReferenceIdeal Cert.ReferenceIdeal.Gen Cert.ReferenceIdeal.Facts Cert.Scene

/-- The row of a pixel. -/
abbrev py (p : Fin 4096) : Fin 64 := ⟨p.val / 64, by omega⟩
/-- The column of a pixel. -/
abbrev px (p : Fin 4096) : Fin 64 := ⟨p.val % 64, by omega⟩

/-- The image held by an array [1, channels, 64, 64]. -/
def chan {C : ℕ} (x : A4 1 C 64 64) : Img C := fun p c => x (ix4 0 c (py p) (px p))

theorem zero_bits : Ideal.ofBits .f32 0x00000000#32 = 0 := Idealize.ShloMosaic.Ideal.ofBits_zero_f32

/-! ### Padding and the window's places -/

/-- An image with a ring of zeros, read at a place of the window. -/
theorem ring_at {C : ℕ} (x : A4 1 C 64 64) {u : Shape} (v : u.Idx → EReal)
    (h : Shape.Pads ⟨4, ![1, C, 64, 64]⟩ ![0, 0, 1, 1] ![0, 0, 1, 1] ![0, 0, 0, 0] ⟨4, ![1, C, 66, 66]⟩) (hu : 0 < u.numel)
    (hv : v (Shape.Idx.first hu) = 0) (a b : ℕ) (ha : a < 3) (hb : b < 3) (p : Fin 4096) (c : Fin C) :
    pad ⟨4, ![1, C, 66, 66]⟩ ![0, 0, 1, 1] ![0, 0, 1, 1] ![0, 0, 0, 0] x v h hu
        (ix4 0 c ⟨p.val / 64 + a, by omega⟩ ⟨p.val % 64 + b, by omega⟩) = tap a b (chan x) p c := by
  unfold tap
  by_cases hn : Near a b p
  · rw [dif_pos hn]
    have hn' := hn
    unfold Near at hn'
    refine (pad_apply_of_inside _ _ _ x v h hu _
      (ix4 0 c ⟨p.val / 64 + a - 1, by omega⟩ ⟨p.val % 64 + b - 1, by omega⟩) ?_).trans ?_
    · intro i
      match i with
      | ⟨0, _⟩ => rfl
      | ⟨1, _⟩ => show c.val = 0 + c.val * 1; omega
      | ⟨2, _⟩ => show p.val / 64 + a = 1 + (p.val / 64 + a - 1) * 1; omega
      | ⟨3, _⟩ => show p.val % 64 + b = 1 + (p.val % 64 + b - 1) * 1; omega
    · refine congrArg x (funext fun i => Fin.ext ?_)
      match i with
      | ⟨0, _⟩ => rfl
      | ⟨1, _⟩ => rfl
      | ⟨2, _⟩ => show p.val / 64 + a - 1 = (p.val + 64 * a + b - 65) / 64; omega
      | ⟨3, _⟩ => show p.val % 64 + b - 1 = (p.val + 64 * a + b - 65) % 64; omega
  · rw [dif_neg hn]
    have hout : ¬(1 ≤ p.val / 64 + a ∧ p.val / 64 + a ≤ 64) ∨ ¬(1 ≤ p.val % 64 + b ∧ p.val % 64 + b ≤ 64) := by
      unfold Near at hn; omega
    rcases hout with ho | ho
    · refine (pad_apply_of_not_inside _ _ _ x v h hu _ (2 : Fin 4) ?_).trans hv
      show ¬(1 ≤ p.val / 64 + a ∧ (p.val / 64 + a - 1) % 1 = 0 ∧ (p.val / 64 + a - 1) / 1 < 64)
      omega
    · refine (pad_apply_of_not_inside _ _ _ x v h hu _ (3 : Fin 4) ?_).trans hv
      show ¬(1 ≤ p.val % 64 + b ∧ (p.val % 64 + b - 1) % 1 = 0 ∧ (p.val % 64 + b - 1) / 1 < 64)
      omega

/-- Padding by nothing changes nothing. -/
theorem pad_none (x : A4 1 64 64 64) {u : Shape} (v : u.Idx → EReal)
    (h : Shape.Pads ⟨4, ![1, 64, 64, 64]⟩ ![0, 0, 0, 0] ![0, 0, 0, 0] ![0, 0, 0, 0] ⟨4, ![1, 64, 64, 64]⟩) (hu : 0 < u.numel) :
    pad ⟨4, ![1, 64, 64, 64]⟩ ![0, 0, 0, 0] ![0, 0, 0, 0] ![0, 0, 0, 0] x v h hu = x := by
  funext j
  refine pad_apply_of_inside _ _ _ x v h hu j j fun a => ?_
  match a with
  | ⟨0, _⟩ => show (j 0).val = 0 + (j 0).val * 1; omega
  | ⟨1, _⟩ => show (j 1).val = 0 + (j 1).val * 1; omega
  | ⟨2, _⟩ => show (j 2).val = 0 + (j 2).val * 1; omega
  | ⟨3, _⟩ => show (j 3).val = 0 + (j 3).val * 1; omega

/-! ### Products over the channels -/

/-- The product over 64 channels, moved back to the channel-first order. -/
def mixH (x : FVec Ideal S1x64x64x64 .f32) (w : FVec Ideal S64x64 .f32) : FVec Ideal S1x64x64x64 .f32 :=
  transpose S1x64x64x64 [0, 3, 1, 2] (Host.dotGeneral dot_S1x64x64x64_S64x64_S1x64x64x64_1_1_023_0_n_n none x w)
    transposes_S1x64x64x64_S1x64x64x64_0_3_1_2

/-- The product over 3 channels, moved back to the channel-first order. -/
def mix3H (x : FVec Ideal S1x3x64x64 .f32) (w : FVec Ideal S64x3 .f32) : FVec Ideal S1x64x64x64 .f32 :=
  transpose S1x64x64x64 [0, 3, 1, 2] (Host.dotGeneral dot_S1x3x64x64_S64x3_S1x64x64x64_1_1_023_0_n_n none x w)
    transposes_S1x64x64x64_S1x64x64x64_0_3_1_2

theorem back_at (y : FVec Ideal S1x64x64x64 .f32) (h : S1x64x64x64.Transposes [0, 3, 1, 2] S1x64x64x64) (o i j : Fin 64) :
    transpose S1x64x64x64 [0, 3, 1, 2] y h (ix4 0 o i j) = y (ix4 0 i j o) :=
  transpose_apply _ y h _ _ fun a => match a with | ⟨0, _⟩ => rfl | ⟨1, _⟩ => rfl | ⟨2, _⟩ => rfl | ⟨3, _⟩ => rfl

theorem mixH_at (x : FVec Ideal S1x64x64x64 .f32) (w : FVec Ideal S64x64 .f32) (o i j : Fin 64) :
    mixH x w (ix4 0 o i j) = ∑ c : Fin 64, x (ix4 0 c i j) * w (ix2 o c) := by
  unfold mixH
  refine (back_at _ _ o i j).trans ?_
  simp only [Host.dotGeneral]
  refine (Idealize.ShloMosaic.Ideal.dotGeneral_apply _ _ _ _ _ _).trans ?_
  refine (DotDims.sum_contr₁ dot_S1x64x64x64_S64x64_S1x64x64x64_1_1_023_0_n_n (a := 1) rfl (K := 64) rfl _).trans ?_
  refine Finset.sum_congr rfl fun c _ => ?_
  refine congrArg₂ (· * ·) (congrArg x (funext fun a => ?_)) (congrArg w (funext fun a => ?_))
  · match a with | ⟨0, _⟩ => rfl | ⟨1, _⟩ => rfl | ⟨2, _⟩ => rfl | ⟨3, _⟩ => rfl
  · match a with | ⟨0, _⟩ => rfl | ⟨1, _⟩ => rfl

theorem mix3H_at (x : FVec Ideal S1x3x64x64 .f32) (w : FVec Ideal S64x3 .f32) (o i j : Fin 64) :
    mix3H x w (ix4 0 o i j) = ∑ c : Fin 3, x (ix4 0 c i j) * w (ix2 o c) := by
  unfold mix3H
  refine (back_at _ _ o i j).trans ?_
  simp only [Host.dotGeneral]
  refine (Idealize.ShloMosaic.Ideal.dotGeneral_apply _ _ _ _ _ _).trans ?_
  refine (DotDims.sum_contr₁ dot_S1x3x64x64_S64x3_S1x64x64x64_1_1_023_0_n_n (a := 1) rfl (K := 3) rfl _).trans ?_
  refine Finset.sum_congr rfl fun c _ => ?_
  refine congrArg₂ (· * ·) (congrArg x (funext fun a => ?_)) (congrArg w (funext fun a => ?_))
  · match a with | ⟨0, _⟩ => rfl | ⟨1, _⟩ => rfl | ⟨2, _⟩ => rfl | ⟨3, _⟩ => rfl
  · match a with | ⟨0, _⟩ => rfl | ⟨1, _⟩ => rfl

/-- The weights at one place of the window, as a matrix. -/
theorem weights_at {O C : ℕ} (w : A4 O C 3 3) (a b : ℕ) (ha : a < 3) (hb : b < 3)
    (hs : Shape.Slices ⟨4, ![O, C, 3, 3]⟩ ![0, 0, a, b] ⟨4, ![O, C, 1, 1]⟩)
    (hc : Shape.ShapeCasts ⟨4, ![O, C, 1, 1]⟩ ⟨2, ![O, C]⟩) (o : Fin O) (c : Fin C) :
    shapeCast ⟨2, ![O, C]⟩ (extractStridedSlice ⟨4, ![O, C, 1, 1]⟩ ![0, 0, a, b] w hs) hc (ix2 o c)
      = w (ix4 o c ⟨a, ha⟩ ⟨b, hb⟩) := by
  refine (shapeCast_apply _ hc (ix2 o c) (ix4 o c 0 0) ?_).trans ?_
  · refine (Shape.rowMajor_val_four _).trans (Eq.trans ?_ (Shape.rowMajor_val_two _).symm)
    show ((o.val * C + c.val) * 1 + 0) * 1 + 0 = o.val * C + c.val
    omega
  · refine (extractStridedSlice_apply _ _ _ _ _ ?_).trans rfl
    intro i
    match i with
    | ⟨0, _⟩ => show o.val = 0 + o.val; omega
    | ⟨1, _⟩ => show c.val = 0 + c.val; omega
    | ⟨2, _⟩ => rfl
    | ⟨3, _⟩ => rfl

/-- The padded image at one place of the window. -/
theorem window_at {C : ℕ} (P : A4 1 C 66 66) (a b : ℕ) (ha : a < 3) (hb : b < 3)
    (hs : Shape.Slices ⟨4, ![1, C, 66, 66]⟩ ![0, 0, a, b] ⟨4, ![1, C, 64, 64]⟩) (c : Fin C) (i j : Fin 64) :
    extractStridedSlice ⟨4, ![1, C, 64, 64]⟩ ![0, 0, a, b] P hs (ix4 0 c i j)
      = P (ix4 0 c ⟨i.val + a, by omega⟩ ⟨j.val + b, by omega⟩) := by
  refine (extractStridedSlice_apply _ _ _ _ _ ?_).trans rfl
  intro k
  match k with
  | ⟨0, _⟩ => rfl
  | ⟨1, _⟩ => show c.val = 0 + c.val; omega
  | ⟨2, _⟩ => show i.val + a = a + i.val; omega
  | ⟨3, _⟩ => show j.val + b = b + j.val; omega

end Cert.RV
-- ==== Proof.RefBlocks.lean ====
/- The reference's layers as array terms, and what each is on images: convolution, bias, positive part, the
   normalisation over pixels, the residual block, the unit vectors. -/
module

public import proofs.«01_k».proof.Proof.RefOps
public import Idealize.ShloMosaic.Lib.IdealHost

@[expose] public section

set_option maxRecDepth 16384

noncomputable section

namespace Cert.RV

open Idealize.ShloMosaic Cert.ReferenceIdeal Cert.ReferenceIdeal.Gen Cert.ReferenceIdeal.Facts Cert.Scene

/-! ### Convolution -/

/-- One place of the window over 64 channels. -/
def tapH (a b : ℕ) (hw : S64x64x3x3.Slices ![0, 0, a, b] S64x64x1x1) (hi : S1x64x66x66.Slices ![0, 0, a, b] S1x64x64x64)
    (P : FVec Ideal S1x64x66x66 .f32) (w : FVec Ideal S64x64x3x3 .f32) : FVec Ideal S1x64x64x64 .f32 :=
  mixH (extractStridedSlice S1x64x64x64 ![0, 0, a, b] P hi)
    (shapeCast S64x64 (extractStridedSlice S64x64x1x1 ![0, 0, a, b] w hw) shapeCasts_S64x64x1x1_S64x64)

/-- One place of the window over 3 channels. -/
def tap3H (a b : ℕ) (hw : S64x3x3x3.Slices ![0, 0, a, b] S64x3x1x1) (hi : S1x3x66x66.Slices ![0, 0, a, b] S1x3x64x64)
    (P : FVec Ideal S1x3x66x66 .f32) (w : FVec Ideal S64x3x3x3 .f32) : FVec Ideal S1x64x64x64 .f32 :=
  mix3H (extractStridedSlice S1x3x64x64 ![0, 0, a, b] P hi)
    (shapeCast S64x3 (extractStridedSlice S64x3x1x1 ![0, 0, a, b] w hw) shapeCasts_S64x3x1x1_S64x3)

theorem tapH_at (a b : Fin 3) (hw : S64x64x3x3.Slices ![0, 0, a.val, b.val] S64x64x1x1)
    (hi : S1x64x66x66.Slices ![0, 0, a.val, b.val] S1x64x64x64) (P : FVec Ideal S1x64x66x66 .f32) (w : FVec Ideal S64x64x3x3 .f32)
    (o i j : Fin 64) : tapH a.val b.val hw hi P w (ix4 0 o i j)
      = ∑ c : Fin 64, P (ix4 0 c ⟨i.val + a.val, by omega⟩ ⟨j.val + b.val, by omega⟩) * w (ix4 o c a b) := by
  unfold tapH
  refine (mixH_at _ _ o i j).trans ?_
  refine Finset.sum_congr rfl fun c _ => ?_
  have h1 := window_at (C := 64) P a.val b.val a.isLt b.isLt hi c i j
  have h2 := weights_at (O := 64) (C := 64) w a.val b.val a.isLt b.isLt hw shapeCasts_S64x64x1x1_S64x64 o c
  exact congrArg₂ (fun u v : EReal => u * v) h1 h2

theorem tap3H_at (a b : Fin 3) (hw : S64x3x3x3.Slices ![0, 0, a.val, b.val] S64x3x1x1)
    (hi : S1x3x66x66.Slices ![0, 0, a.val, b.val] S1x3x64x64) (P : FVec Ideal S1x3x66x66 .f32) (w : FVec Ideal S64x3x3x3 .f32)
    (o i j : Fin 64) : tap3H a.val b.val hw hi P w (ix4 0 o i j)
      = ∑ c : Fin 3, P (ix4 0 c ⟨i.val + a.val, by omega⟩ ⟨j.val + b.val, by omega⟩) * w (ix4 o c a b) := by
  unfold tap3H
  refine (mix3H_at _ _ o i j).trans ?_
  refine Finset.sum_congr rfl fun c _ => ?_
  have h1 := window_at (C := 3) P a.val b.val a.isLt b.isLt hi c i j
  have h2 := weights_at (O := 64) (C := 3) w a.val b.val a.isLt b.isLt hw shapeCasts_S64x3x1x1_S64x3 o c
  exact congrArg₂ (fun u v : EReal => u * v) h1 h2

/-- Nine arrays added in order. -/
def nineH (t : Fin 3 → Fin 3 → FVec Ideal S1x64x64x64 .f32) : FVec Ideal S1x64x64x64 .f32 :=
  addf (addf (addf (addf (addf (addf (addf (addf (t 0 0) (t 0 1)) (t 0 2)) (t 1 0)) (t 1 1)) (t 1 2)) (t 2 0)) (t 2 1)) (t 2 2)

theorem nineH_at (t : Fin 3 → Fin 3 → FVec Ideal S1x64x64x64 .f32) (i : S1x64x64x64.Idx) :
    nineH t i = ∑ a : Fin 3, ∑ b : Fin 3, t a b i := (sum_nine' fun a b => t a b i).symm

theorem place_w {C : ℕ} (a b : Fin 3) : Shape.Slices ⟨4, ![64, C, 3, 3]⟩ ![0, 0, a.val, b.val] ⟨4, ![64, C, 1, 1]⟩ :=
  ⟨rfl, fun i => match i with
    | ⟨0, _⟩ => le_refl 64
    | ⟨1, _⟩ => by show 0 + C ≤ C; omega
    | ⟨2, _⟩ => by show a.val + 1 ≤ 3; omega
    | ⟨3, _⟩ => by show b.val + 1 ≤ 3; omega⟩

theorem place_i {C : ℕ} (a b : Fin 3) : Shape.Slices ⟨4, ![1, C, 66, 66]⟩ ![0, 0, a.val, b.val] ⟨4, ![1, C, 64, 64]⟩ :=
  ⟨rfl, fun i => match i with
    | ⟨0, _⟩ => le_refl 1
    | ⟨1, _⟩ => by show 0 + C ≤ C; omega
    | ⟨2, _⟩ => by show a.val + 64 ≤ 66; omega
    | ⟨3, _⟩ => by show b.val + 64 ≤ 66; omega⟩

/-- The convolution of a padded array over 64 channels. -/
def convH (P : FVec Ideal S1x64x66x66 .f32) (w : FVec Ideal S64x64x3x3 .f32) : FVec Ideal S1x64x64x64 .f32 :=
  nineH fun a b => tapH a.val b.val (place_w a b) (place_i a b) P w

/-- The convolution of a padded array over 3 channels. -/
def conv3H (P : FVec Ideal S1x3x66x66 .f32) (w : FVec Ideal S64x3x3x3 .f32) : FVec Ideal S1x64x64x64 .f32 :=
  nineH fun a b => tap3H a.val b.val (place_w a b) (place_i a b) P w

/-- A padded array shows an image through the places of the window. -/
def Shows {C : ℕ} (P : A4 1 C 66 66) (A : Img C) : Prop := ∀ (a b : Fin 3) (p : Fin 4096) (c : Fin C),
  P (ix4 0 c ⟨p.val / 64 + a.val, by omega⟩ ⟨p.val % 64 + b.val, by omega⟩) = tap a.val b.val A p c

theorem convH_eq (P : FVec Ideal S1x64x66x66 .f32) (w : FVec Ideal S64x64x3x3 .f32) (A : Img 64) (hP : Shows P A) :
    chan (C := 64) (convH P w) = conv3 A (kernel3 w) := by
  funext p o
  unfold chan convH conv3
  rw [nineH_at]
  refine Finset.sum_congr rfl fun a _ => Finset.sum_congr rfl fun b _ => ?_
  refine (tapH_at a b _ _ P w o (py p) (px p)).trans ?_
  exact Finset.sum_congr rfl fun c _ => congrArg (· * w (ix4 o c a b)) (hP a b p c)

theorem conv3H_eq (P : FVec Ideal S1x3x66x66 .f32) (w : FVec Ideal S64x3x3x3 .f32) (A : Img 3) (hP : Shows P A) :
    chan (C := 64) (conv3H P w) = conv3 A (kernel3 w) := by
  funext p o
  unfold chan conv3H conv3
  rw [nineH_at]
  refine Finset.sum_congr rfl fun a _ => Finset.sum_congr rfl fun b _ => ?_
  refine (tap3H_at a b _ _ P w o (py p) (px p)).trans ?_
  exact Finset.sum_congr rfl fun c _ => congrArg (· * w (ix4 o c a b)) (hP a b p c)

/-- The convolution with a window of one pixel. -/
def conv1H (x : FVec Ideal S1x64x64x64 .f32) (w : FVec Ideal S64x64x1x1 .f32) : FVec Ideal S1x64x64x64 .f32 :=
  mixH x (shapeCast S64x64 w shapeCasts_S64x64x1x1_S64x64)

theorem conv1H_eq (x : FVec Ideal S1x64x64x64 .f32) (w : FVec Ideal S64x64x1x1 .f32) :
    chan (C := 64) (conv1H x w) = conv1 (chan (C := 64) x) (kernel1 w) := by
  funext p o
  refine (mixH_at _ _ o _ _).trans ?_
  refine Finset.sum_congr rfl fun c _ => ?_
  refine congrArg (x (ix4 0 c (py p) (px p)) * ·) ?_
  refine shapeCast_apply _ _ (ix2 o c) (ix4 o c 0 0) ?_
  refine (Shape.rowMajor_val_four _).trans (Eq.trans ?_ (Shape.rowMajor_val_two _).symm)
  show ((o.val * 64 + c.val) * 1 + 0) * 1 + 0 = o.val * 64 + c.val
  omega

/-- The word zero as a number. -/
theorem sitofp_zero : (FloatOps.sitofp (F := Ideal) (φ := .f32) (0#32 : BitVec 32)) = (0 : EReal) := by
  simp [FloatOps.sitofp]

/-- The image padded by a ring of the number that the word zero stands for. -/
def ringH (z : IVec S_ 32) (x : FVec Ideal S1x64x64x64 .f32) : FVec Ideal S1x64x66x66 .f32 :=
  pad S1x64x66x66 ![0, 0, 1, 1] ![0, 0, 1, 1] ![0, 0, 0, 0] x (sitofp .f32 z) pads_S1x64x64x64_S1x64x66x66_000_000_110_110 h_S_

theorem ringH_shows (x : FVec Ideal S1x64x64x64 .f32) : Shows (C := 64) (ringH (constantI S_ 32 0#32) x) (chan (C := 64) x) :=
  fun a b p c => ring_at (C := 64) x _ _ _ sitofp_zero a.val b.val a.isLt b.isLt p c

/-! ### A value per channel -/

/-- A value per channel as an array [1, 64, 1, 1]. -/
def perH (b : FVec Ideal S64 .f32) : FVec Ideal S1x64x1x1 .f32 := broadcastInDim S1x64x1x1 ![1] bcast_S64_S1x64x1x1_1 b

theorem perH_at (b : FVec Ideal S64 .f32) (c : Fin 64) : perH b (ix4 0 c 0 0) = b (ix1 c) :=
  congrArg b (funext fun a => match a with | ⟨0, _⟩ => rfl)

/-- Laid over all pixels. -/
def overH (v : FVec Ideal S1x64x1x1 .f32) : FVec Ideal S1x64x64x64 .f32 :=
  broadcastInDim S1x64x64x64 ![0, 1, 2, 3] bcast_S1x64x1x1_S1x64x64x64_0_1_2_3 v

theorem overH_at (v : FVec Ideal S1x64x1x1 .f32) (c i j : Fin 64) : overH v (ix4 0 c i j) = v (ix4 0 c 0 0) :=
  congrArg v (funext fun a => match a with | ⟨0, _⟩ => rfl | ⟨1, _⟩ => rfl | ⟨2, _⟩ => rfl | ⟨3, _⟩ => rfl)

/-- A number in every channel. -/
def allH (v : FVec Ideal S_ .f32) : FVec Ideal S1x64x1x1 .f32 := broadcastInDim S1x64x1x1 ![] bcast_S_S1x64x1x1 v

theorem allH_at (v : FVec Ideal S_ .f32) (i : S1x64x1x1.Idx) : allH v i = v ix0 :=
  congrArg v (funext fun a => a.elim0)

/-- The bias. -/
def biasH (x : FVec Ideal S1x64x64x64 .f32) (b : FVec Ideal S64 .f32) : FVec Ideal S1x64x64x64 .f32 := addf x (overH (perH b))

theorem biasH_eq (x : FVec Ideal S1x64x64x64 .f32) (b : FVec Ideal S64 .f32) :
    chan (C := 64) (biasH x b) = bias (chan (C := 64) x) (offset b) := by
  funext p c
  exact congrArg (x (ix4 0 c (py p) (px p)) + ·) ((overH_at _ c _ _).trans (perH_at b c))

/-- The positive part. -/
def reluH (x : FVec Ideal S1x64x64x64 .f32) : FVec Ideal S1x64x64x64 .f32 :=
  maximumf x (broadcastInDim S1x64x64x64 ![] bcast_S_S1x64x64x64 (constant S_ .f32 0x00000000#32))

theorem reluH_eq (x : FVec Ideal S1x64x64x64 .f32) : chan (C := 64) (reluH x) = relu (chan (C := 64) x) := by
  funext p c
  exact congrArg (max (x (ix4 0 c (py p) (px p)))) zero_bits

/-! ### The normalisation over pixels -/

/-- The sum over the pixels. -/
theorem pixels_sum (x : FVec Ideal S1x64x64x64 .f32) (c : Fin 64) :
    Host.reduceAdd x (constant S_ .f32 0x00000000#32) reducesTo_S1x64x64x64_S64_d0_2_3 h_S_ (ix1 c) = ∑ p, chan (C := 64) x p c := by
  refine (ValueIdx.hostReduceAdd_apply _ _ _ _ _).trans ?_
  refine (congrArg (· + _) zero_bits).trans ((zero_add _).trans ?_)
  refine Finset.sum_filter_eq_sum_of_fiber _ (fun p : Fin 4096 => (ix4 0 c (py p) (px p) : S1x64x64x64.Idx)) ?_ ?_ _
  · intro p q e
    have h2 : p.val / 64 = q.val / 64 := congrArg Fin.val (congrFun e 2)
    have h3 : p.val % 64 = q.val % 64 := congrArg Fin.val (congrFun e 3)
    exact Fin.ext (by omega)
  · intro i
    constructor
    · intro e
      have e0 := congrArg Fin.val (congrFun e 0)
      have b0 : (i 0).val < 1 := (i 0).isLt
      have b2 : (i 2).val < 64 := (i 2).isLt
      have b3 : (i 3).val < 64 := (i 3).isLt
      refine ⟨⟨(i 2).val * 64 + (i 3).val, by omega⟩, funext fun a => Fin.ext ?_⟩
      match a with
      | ⟨0, _⟩ => show 0 = (i 0).val; omega
      | ⟨1, _⟩ => exact e0.symm
      | ⟨2, _⟩ => show ((i 2).val * 64 + (i 3).val) / 64 = (i 2).val; omega
      | ⟨3, _⟩ => show ((i 2).val * 64 + (i 3).val) % 64 = (i 3).val; omega
    · rintro ⟨p, rfl⟩
      funext a
      match a with | ⟨0, _⟩ => rfl

/-- The mean over the pixels. -/
def meanH (x : FVec Ideal S1x64x64x64 .f32) : FVec Ideal S1x64x1x1 .f32 :=
  Host.divf (perH (Host.reduceAdd x (constant S_ .f32 0x00000000#32) reducesTo_S1x64x64x64_S64_d0_2_3 h_S_))
    (allH (constant S_ .f32 0x45800000#32))

theorem meanH_at (x : FVec Ideal S1x64x64x64 .f32) (c : Fin 64) : meanH x (ix4 0 c 0 0) = mean (chan (C := 64) x) c :=
  congrArg (Idealize.ShloMosaic.Ideal.div · npix) ((perH_at _ c).trans (pixels_sum x c))

/-- The number of pixels less the word `z`. -/
def countH (z : IVec S_ 32) : FVec Ideal S_ .f32 := subf (constant S_ .f32 0x45800000#32) (sitofp .f32 z)

/-- The variance over the pixels. -/
def varH (z : IVec S_ 32) (x : FVec Ideal S1x64x64x64 .f32) : FVec Ideal S1x64x1x1 .f32 :=
  select (broadcastInDim S1x64x1x1 ![] bcast_S_S1x64x1x1 (cmpf .ogt (countH z) (constant S_ .f32 0x00000000#32)))
    (Host.divf (perH (Host.reduceAdd (mulf (subf x (overH (meanH x))) (subf x (overH (meanH x))))
      (constant S_ .f32 0x00000000#32) reducesTo_S1x64x64x64_S64_d0_2_3 h_S_)) (allH (countH z)))
    (allH (id (constant S_ .f32 0x7FC00000#32)))

theorem npix_val : npix = ((4096 : ℝ) : EReal) := by
  unfold npix
  have : Ideal.ofBits .f32 0x45800000#32 = ((((2 ^ 23 : ℕ) : ℝ) * (2 : ℝ) ^ (-11 : ℤ) : ℝ) : EReal) := by
    simp [Ideal.ofBits, Ideal.ieee]
  rw [this]
  norm_num

theorem countH_zero : countH (constantI S_ 32 0#32) ix0 = npix := by
  show npix - FloatOps.sitofp (F := Ideal) (φ := .f32) (0#32 : BitVec 32) = npix
  rw [sitofp_zero, sub_zero]

theorem varH_at (x : FVec Ideal S1x64x64x64 .f32) (c : Fin 64) :
    varH (constantI S_ 32 0#32) x (ix4 0 c 0 0) = var (chan (C := 64) x) c := by
  have hc : (cmpf .ogt (countH (constantI S_ 32 0#32)) (constant (F := Ideal) S_ .f32 0x00000000#32)) ix0 = 1#1 := by
    have hz : (constant (F := Ideal) S_ .f32 0x00000000#32) ix0 = (0 : EReal) := zero_bits
    show FloatOps.cmpf (F := Ideal) .ogt (countH (constantI S_ 32 0#32) ix0) ((constant (F := Ideal) S_ .f32 0x00000000#32) ix0) = 1#1
    rw [hz, countH_zero, npix_val]
    exact congrArg BitVec.ofBool (decide_eq_true (by rw [EReal.coe_pos]; norm_num))
  unfold varH
  have hb : broadcastInDim S1x64x1x1 ![] bcast_S_S1x64x1x1 (cmpf .ogt (countH (constantI S_ 32 0#32)) (constant (F := Ideal) S_ .f32 0x00000000#32))
      (ix4 0 c 0 0) = 1#1 :=
    (congrArg (cmpf .ogt (countH (constantI S_ 32 0#32)) (constant (F := Ideal) S_ .f32 0x00000000#32)) (funext fun a : Fin 0 => a.elim0)).trans hc
  refine (if_pos hb).trans ?_
  refine (ValueIdx.hostDivf_apply _ _ _).trans ?_
  refine congrArg₂ Idealize.ShloMosaic.Ideal.div ((perH_at _ c).trans ((pixels_sum _ c).trans ?_)) ((allH_at _ _).trans countH_zero)
  refine Finset.sum_congr rfl fun p _ => ?_
  have hd : chan (C := 64) (subf x (overH (meanH x))) p c = chan (C := 64) x p c - mean (chan (C := 64) x) c :=
    congrArg (x (ix4 0 c (py p) (px p)) - ·) ((overH_at _ c _ _).trans (meanH_at x c))
  exact congrArg₂ (· * ·) hd hd

/-- The normalisation over pixels. -/
def bnormH (z : IVec S_ 32) (x : FVec Ideal S1x64x64x64 .f32) : FVec Ideal S1x64x64x64 .f32 :=
  mulf (subf x (overH (meanH x))) (overH (Host.rsqrt (addf (varH z x) (allH (constant S_ .f32 0x3727C5AC#32)))))

theorem bnormH_eq (x : FVec Ideal S1x64x64x64 .f32) :
    chan (C := 64) (bnormH (constantI S_ 32 0#32) x) = bnorm (chan (C := 64) x) := by
  funext p c
  refine congrArg₂ (· * ·) (congrArg (x (ix4 0 c (py p) (px p)) - ·) ((overH_at _ c _ _).trans (meanH_at x c))) ?_
  refine (overH_at _ c _ _).trans ?_
  exact congrArg (fun v => Idealize.ShloMosaic.Ideal.rsqrt (v + eps5)) (varH_at x c)

/-- The residual block. -/
def blockH (x : FVec Ideal S1x64x64x64 .f32) (w₁ w₂ : FVec Ideal S64x64x3x3 .f32) : FVec Ideal S1x64x64x64 .f32 :=
  reluH (addf x (bnormH (constantI S_ 32 0#32) (convH (ringH (constantI S_ 32 0#32)
    (reluH (bnormH (constantI S_ 32 0#32) (convH (ringH (constantI S_ 32 0#32) x) w₁)))) w₂)))

theorem blockH_eq (x : FVec Ideal S1x64x64x64 .f32) (w₁ w₂ : FVec Ideal S64x64x3x3 .f32) :
    chan (C := 64) (blockH x w₁ w₂) = resblock (chan (C := 64) x) (kernel3 w₁) (kernel3 w₂) := by
  refine (reluH_eq _).trans (congrArg relu ?_)
  funext p c
  have h : chan (C := 64) (bnormH (constantI S_ 32 0#32) (convH (ringH (constantI S_ 32 0#32)
      (reluH (bnormH (constantI S_ 32 0#32) (convH (ringH (constantI S_ 32 0#32) x) w₁)))) w₂))
      = bnorm (conv3 (relu (bnorm (conv3 (chan (C := 64) x) (kernel3 w₁)))) (kernel3 w₂)) := by
    rw [bnormH_eq, convH_eq _ _ _ (ringH_shows _), reluH_eq, bnormH_eq, convH_eq _ _ _ (ringH_shows _)]
  exact congrArg (chan (C := 64) x p c + ·) (congrFun (congrFun h p) c)

end Cert.RV
-- ==== Proof.RefStages.lean ====
/- The reference's run before its loop, cut into four groups of stretches: what each group leaves in the buffers that
   are read later, as the layers' array terms, and which buffers it leaves alone. -/
module

public import proofs.«01_k».proof.Proof.Gen.ReferenceIdeal.Run
public import proofs.«01_k».proof.Proof.RefBlocks

@[expose] public section

set_option maxRecDepth 16384

noncomputable section

namespace Cert.RV

open Idealize.ShloMosaic Idealize.ShloMosaic.StableHlo Cert.ReferenceIdeal Cert.ReferenceIdeal.Gen Cert.ReferenceIdeal.Facts Cert.ReferenceIdeal.Value Cert.Scene

/-- All buffers' contents. -/
abbrev Vals := Valuation τ sig (Elt Ideal)

/-- The input with its channels first. -/
def firstH (x : FVec Ideal S1x64x64x3 .f32) : FVec Ideal S1x3x64x64 .f32 :=
  transpose S1x3x64x64 [0, 3, 1, 2] x transposes_S1x64x64x3_S1x3x64x64_0_3_1_2

/-- The input padded by a ring. -/
def ring3H (z : IVec S_ 32) (x : FVec Ideal S1x3x64x64 .f32) : FVec Ideal S1x3x66x66 .f32 :=
  pad S1x3x66x66 ![0, 0, 1, 1] ![0, 0, 1, 1] ![0, 0, 0, 0] x (sitofp .f32 z) pads_S1x3x64x64_S1x3x66x66_000_000_110_110 h_S_

/-- The padding by nothing. -/
def sameH (z : IVec S_ 32) (x : FVec Ideal S1x64x64x64 .f32) : FVec Ideal S1x64x64x64 .f32 :=
  pad S1x64x64x64 ![0, 0, 0, 0] ![0, 0, 0, 0] ![0, 0, 0, 0] x (sitofp .f32 z) pads_S1x64x64x64_S1x64x64x64_000_000_000_000 h_S_

/-- The features. -/
def headH (x : FVec Ideal S1x64x64x3 .f32) (w₁ : FVec Ideal S64x3x3x3 .f32) (b₁ : FVec Ideal S64 .f32)
    (w₂ : FVec Ideal S64x64x1x1 .f32) (b₂ : FVec Ideal S64 .f32) : FVec Ideal S1x64x64x64 .f32 :=
  reluH (biasH (conv1H (sameH (constantI S_ 32 0#32)
    (reluH (biasH (conv3H (ring3H (constantI S_ 32 0#32) (firstH x)) w₁) b₁))) w₂) b₂)

/-! ### The contents after each stretch -/

/-- Two lists related item by item are related at every place, past the end too. -/
theorem pairs_getD {α β : Type*} {R : List α → List β → Prop} {l : List (List α)} {l' : List (List β)} (h : List.Forall₂ R l l')
    (h0 : R [] []) : ∀ i, R (l.getD i []) (l'.getD i []) := by
  induction h with
  | nil => intro i; exact h0
  | cons ha _ ih =>
    intro i
    cases i with
    | zero => exact ha
    | succ i => exact ih i

/-- The references each stretch writes. -/
noncomputable def stretchWrites : List (List (Ref sig .tc)) := [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W, hostOps0_14_W, hostOps0_15_W, hostOps0_16_W, hostOps0_17_W, hostOps0_18_W, hostOps0_19_W, hostOps0_20_W, hostOps0_21_W, hostOps0_22_W, hostOps0_23_W, hostOps0_24_W, hostOps0_25_W, hostOps0_26_W, hostOps0_27_W, hostOps0_28_W, hostOps0_29_W, hostOps0_30_W, hostOps0_31_W, hostOps0_32_W, hostOps0_33_W, hostOps0_34_W, hostOps0_35_W, hostOps0_36_W, hostOps0_37_W, hostOps0_38_W, hostOps0_39_W, hostOps0_40_W]

/-- Each stretch writes only its references. -/
theorem stretch_writes : List.Forall₂ (fun (ops : List (HloOp τ sig (Elt Ideal))) (W : List (Ref sig .tc)) =>
    ops.Forall fun op => op.writes ⊆ (W.map (Proc.devRef (τ := τ) .tc)).toFinset) preI stretchWrites :=
  .cons hostOps0_writes (.cons hostOps0_1_writes (.cons hostOps0_2_writes (.cons hostOps0_3_writes (.cons hostOps0_4_writes (.cons hostOps0_5_writes (.cons hostOps0_6_writes (.cons hostOps0_7_writes (.cons hostOps0_8_writes (.cons hostOps0_9_writes (.cons hostOps0_10_writes (.cons hostOps0_11_writes (.cons hostOps0_12_writes (.cons hostOps0_13_writes (.cons hostOps0_14_writes (.cons hostOps0_15_writes (.cons hostOps0_16_writes (.cons hostOps0_17_writes (.cons hostOps0_18_writes (.cons hostOps0_19_writes (.cons hostOps0_20_writes (.cons hostOps0_21_writes (.cons hostOps0_22_writes (.cons hostOps0_23_writes (.cons hostOps0_24_writes (.cons hostOps0_25_writes (.cons hostOps0_26_writes (.cons hostOps0_27_writes (.cons hostOps0_28_writes (.cons hostOps0_29_writes (.cons hostOps0_30_writes (.cons hostOps0_31_writes (.cons hostOps0_32_writes (.cons hostOps0_33_writes (.cons hostOps0_34_writes (.cons hostOps0_35_writes (.cons hostOps0_36_writes (.cons hostOps0_37_writes (.cons hostOps0_38_writes (.cons hostOps0_39_writes (.cons hostOps0_40_writes (.nil)))))))))))))))))))))))))))))))))))))))))

/-- The contents after the first `n` stretches from `V`. -/
def vals (V : Vals) : ℕ → Vals
  | 0 => V
  | n + 1 => after (preI.getD n []) (vals V n)

/-- The contents before the loop are those after all 41 stretches. -/
theorem entry_eq (m : (ℓ : Loc nD τ sig) → Buf (Elt Ideal) ℓ) (c : Dev nD) :
    entryContents preI m c = vals (fun b => m (c, b)) 41 := rfl

/-- A buffer that no stretch from `n` to `k` writes holds what it held. -/
theorem vals_keep (V : Vals) (j : Ref sig .tc) (n d : ℕ)
    (h : ∀ i ∈ List.range d, j ∉ stretchWrites.getD (n + i) []) : vals V (n + d) (Proc.devRef .tc j) = vals V n (Proc.devRef .tc j) := by
  induction d with
  | zero => rfl
  | succ d ih =>
    refine Eq.trans ?_ (ih fun i hi => h i (List.mem_range.mpr (Nat.lt_succ_of_lt (List.mem_range.mp hi))))
    have hj := h d (List.mem_range.mpr (Nat.lt_succ_self d))
    show after (preI.getD (n + d) []) (vals V (n + d)) (Proc.devRef .tc j) = _
    exact after_of_writes_sub (W := stretchWrites.getD (n + d) []) _ _ (pairs_getD stretch_writes trivial (n + d)) hj

end Cert.RV
-- ==== Proof.RefEntry.lean ====
/- What the reference's loop starts from: the affinities of all edges, the edges' two ends and the initial state, as the
   layers' array terms of the arguments. -/
module

public import proofs.«01_k».proof.Proof.RefStages

@[expose] public section

set_option maxRecDepth 16384

noncomputable section

namespace Cert.RV

open Idealize.ShloMosaic Idealize.ShloMosaic.StableHlo Cert.ReferenceIdeal Cert.ReferenceIdeal.Gen Cert.ReferenceIdeal.Facts Cert.ReferenceIdeal.Value Cert.Scene

/-- The word zero. -/
abbrev zeroW : IVec S_ 32 := constantI S_ 32 0#32

/-- The image as a matrix of pixels and channels. -/
def flatH (x : FVec Ideal S1x64x64x64 .f32) : FVec Ideal S1x4096x64 .f32 :=
  transpose S1x4096x64 [0, 2, 1] (shapeCast S1x64x4096 x shapeCasts_S1x64x64x64_S1x64x4096) transposes_S1x64x4096_S1x4096x64_0_2_1

/-- Every pixel's channels divided by their length. -/
def unitH (x : FVec Ideal S1x4096x64 .f32) : FVec Ideal S1x4096x64 .f32 :=
  Host.divf x (broadcastInDim S1x4096x64 ![0, 1, 2] bcast_S1x4096x1_S1x4096x64_0_1_2
    (addf (Host.sqrt (broadcastInDim S1x4096x1 ![0, 1] bcast_S1x4096_S1x4096x1_0_1
      (Host.reduceAdd (mulf x x) (constant S_ .f32 0x00000000#32) reducesTo_S1x4096x64_S1x4096_d2 h_S_)))
      (broadcastInDim S1x4096x1 ![] bcast_S_S1x4096x1 (constant S_ .f32 0x322BCC77#32))))

/-- Pixel numbers as a column of indices, a negative one counted from the end. -/
def wrapH (i : IVec S36100 32) : IVec S36100x1 32 :=
  broadcastInDim S36100x1 ![0] bcast_S36100_S36100x1_0
    (select (cmpi .slt i (broadcastInDim S36100 ![] bcast_S_S36100 (constantI S_ 32 0#32)))
      (addi i (broadcastInDim S36100 ![] bcast_S_S36100 (constantI S_ 32 4096#32))) i)

/-- The affinity of every edge. -/
def affH (q k : FVec Ideal S1x4096x64 .f32) (row col : IVec S36100 32) : FVec Ideal S36100 .f32 :=
  shapeCast S36100 (Host.reduceAdd (mulf (Host.gather gather_S1x4096x64_S36100x1_S1x36100x64_02_1_n_n_1_1_1164 q (wrapH row))
    (Host.gather gather_S1x4096x64_S36100x1_S1x36100x64_02_1_n_n_1_1_1164 k (wrapH col)))
    (constant S_ .f32 0x00000000#32) reducesTo_S1x36100x64_S1x36100_d2 h_S_) shapeCasts_S1x36100_S36100

/-! The normalised convolution of stretches 10 to 12. -/
theorem b2conv (W : Vals) : after hostOps0_10 W (Proc.devRef .tc main_v120) = convH (W (Proc.devRef .tc main_v67)) (W (Proc.devRef .tc main_arg5)) := rfl
theorem b2mean (W : Vals) : after hostOps0_10 W (Proc.devRef .tc main_v124) = meanH (convH (W (Proc.devRef .tc main_v67)) (W (Proc.devRef .tc main_arg5))) := by
  after_reads_simp
  rfl
theorem b2zero (W : Vals) : after hostOps0_10 W (Proc.devRef .tc main_c_3) = zeroW := rfl
theorem b2var (W : Vals) : after hostOps0_11 W (Proc.devRef .tc main_v125) = varH (W (Proc.devRef .tc main_c_3)) (W (Proc.devRef .tc main_v120)) := by
  after_reads_simp
  rfl
theorem b2last (W : Vals) : after hostOps0_12 W (Proc.devRef .tc main_v132) = mulf (F := Ideal) (s := S1x64x64x64) (φ := .f32) (subf (F := Ideal) (s := S1x64x64x64) (φ := .f32) (W (Proc.devRef .tc main_v120)) (overH (W (Proc.devRef .tc main_v124))))
      (overH (Host.rsqrt (F := Ideal) (s := S1x64x1x1) (φ := .f32) (addf (F := Ideal) (s := S1x64x1x1) (φ := .f32) (W (Proc.devRef .tc main_v125)) (allH (constant S_ .f32 0x3727C5AC#32))))) := rfl
theorem b2norm (W : Vals) : after hostOps0_12 (after hostOps0_11 (after hostOps0_10 W)) (Proc.devRef .tc main_v132)
    = bnormH zeroW (convH (W (Proc.devRef .tc main_v67)) (W (Proc.devRef .tc main_arg5))) := by
  rw [b2last, b2var, after_of_writes_sub _ _ hostOps0_11_writes (r := main_v120) (by decide +kernel),
    after_of_writes_sub _ _ hostOps0_11_writes (r := main_v124) (by decide +kernel), b2conv, b2mean, b2zero]
  rfl

/-! The normalised convolution of stretches 16 to 18. -/
theorem b4conv (W : Vals) : after hostOps0_16 W (Proc.devRef .tc main_v187) = convH (W (Proc.devRef .tc main_v134)) (W (Proc.devRef .tc main_arg6)) := rfl
theorem b4mean (W : Vals) : after hostOps0_16 W (Proc.devRef .tc main_v191) = meanH (convH (W (Proc.devRef .tc main_v134)) (W (Proc.devRef .tc main_arg6))) := by
  after_reads_simp
  rfl
theorem b4zero (W : Vals) : after hostOps0_16 W (Proc.devRef .tc main_c_8) = zeroW := rfl
theorem b4var (W : Vals) : after hostOps0_17 W (Proc.devRef .tc main_v192) = varH (W (Proc.devRef .tc main_c_8)) (W (Proc.devRef .tc main_v187)) := by
  after_reads_simp
  rfl
theorem b4last (W : Vals) : after hostOps0_18 W (Proc.devRef .tc main_v200) = addf (F := Ideal) (s := S1x64x64x64) (φ := .f32) (W (Proc.devRef .tc main_v66)) (mulf (F := Ideal) (s := S1x64x64x64) (φ := .f32) (subf (F := Ideal) (s := S1x64x64x64) (φ := .f32) (W (Proc.devRef .tc main_v187)) (overH (W (Proc.devRef .tc main_v191))))
      (overH (Host.rsqrt (F := Ideal) (s := S1x64x1x1) (φ := .f32) (addf (F := Ideal) (s := S1x64x1x1) (φ := .f32) (W (Proc.devRef .tc main_v192)) (allH (constant S_ .f32 0x3727C5AC#32)))))) := rfl
theorem b4norm (W : Vals) : after hostOps0_18 (after hostOps0_17 (after hostOps0_16 W)) (Proc.devRef .tc main_v200)
    = addf (F := Ideal) (s := S1x64x64x64) (φ := .f32) (W (Proc.devRef .tc main_v66)) (bnormH zeroW (convH (W (Proc.devRef .tc main_v134)) (W (Proc.devRef .tc main_arg6)))) := by
  rw [b4last, b4var, after_of_writes_sub _ _ hostOps0_17_writes (r := main_v187) (by decide +kernel),
    after_of_writes_sub _ _ hostOps0_17_writes (r := main_v191) (by decide +kernel), b4conv, b4mean, b4zero,
    after_of_writes_sub _ _ hostOps0_17_writes (r := main_v66) (by decide +kernel), after_of_writes_sub _ _ hostOps0_16_writes (r := main_v66) (by decide +kernel)]
  rfl

/-! The normalised convolution of stretches 24 to 26. -/
theorem c2conv (W : Vals) : after hostOps0_24 W (Proc.devRef .tc main_v262) = convH (W (Proc.devRef .tc main_v209)) (W (Proc.devRef .tc main_arg9)) := rfl
theorem c2mean (W : Vals) : after hostOps0_24 W (Proc.devRef .tc main_v266) = meanH (convH (W (Proc.devRef .tc main_v209)) (W (Proc.devRef .tc main_arg9))) := by
  after_reads_simp
  rfl
theorem c2zero (W : Vals) : after hostOps0_24 W (Proc.devRef .tc main_c_14) = zeroW := rfl
theorem c2var (W : Vals) : after hostOps0_25 W (Proc.devRef .tc main_v267) = varH (W (Proc.devRef .tc main_c_14)) (W (Proc.devRef .tc main_v262)) := by
  after_reads_simp
  rfl
theorem c2last (W : Vals) : after hostOps0_26 W (Proc.devRef .tc main_v274) = mulf (F := Ideal) (s := S1x64x64x64) (φ := .f32) (subf (F := Ideal) (s := S1x64x64x64) (φ := .f32) (W (Proc.devRef .tc main_v262)) (overH (W (Proc.devRef .tc main_v266))))
      (overH (Host.rsqrt (F := Ideal) (s := S1x64x1x1) (φ := .f32) (addf (F := Ideal) (s := S1x64x1x1) (φ := .f32) (W (Proc.devRef .tc main_v267)) (allH (constant S_ .f32 0x3727C5AC#32))))) := rfl
theorem c2norm (W : Vals) : after hostOps0_26 (after hostOps0_25 (after hostOps0_24 W)) (Proc.devRef .tc main_v274)
    = bnormH zeroW (convH (W (Proc.devRef .tc main_v209)) (W (Proc.devRef .tc main_arg9))) := by
  rw [c2last, c2var, after_of_writes_sub _ _ hostOps0_25_writes (r := main_v262) (by decide +kernel),
    after_of_writes_sub _ _ hostOps0_25_writes (r := main_v266) (by decide +kernel), c2conv, c2mean, c2zero]
  rfl

/-! The normalised convolution of stretches 30 to 32. -/
theorem c4conv (W : Vals) : after hostOps0_30 W (Proc.devRef .tc main_v329) = convH (W (Proc.devRef .tc main_v276)) (W (Proc.devRef .tc main_arg10)) := rfl
theorem c4mean (W : Vals) : after hostOps0_30 W (Proc.devRef .tc main_v333) = meanH (convH (W (Proc.devRef .tc main_v276)) (W (Proc.devRef .tc main_arg10))) := by
  after_reads_simp
  rfl
theorem c4zero (W : Vals) : after hostOps0_30 W (Proc.devRef .tc main_c_19) = zeroW := rfl
theorem c4var (W : Vals) : after hostOps0_31 W (Proc.devRef .tc main_v334) = varH (W (Proc.devRef .tc main_c_19)) (W (Proc.devRef .tc main_v329)) := by
  after_reads_simp
  rfl
theorem c4last (W : Vals) : after hostOps0_32 W (Proc.devRef .tc main_v342) = addf (F := Ideal) (s := S1x64x64x64) (φ := .f32) (W (Proc.devRef .tc main_v66)) (mulf (F := Ideal) (s := S1x64x64x64) (φ := .f32) (subf (F := Ideal) (s := S1x64x64x64) (φ := .f32) (W (Proc.devRef .tc main_v329)) (overH (W (Proc.devRef .tc main_v333))))
      (overH (Host.rsqrt (F := Ideal) (s := S1x64x1x1) (φ := .f32) (addf (F := Ideal) (s := S1x64x1x1) (φ := .f32) (W (Proc.devRef .tc main_v334)) (allH (constant S_ .f32 0x3727C5AC#32)))))) := rfl
theorem c4norm (W : Vals) : after hostOps0_32 (after hostOps0_31 (after hostOps0_30 W)) (Proc.devRef .tc main_v342)
    = addf (F := Ideal) (s := S1x64x64x64) (φ := .f32) (W (Proc.devRef .tc main_v66)) (bnormH zeroW (convH (W (Proc.devRef .tc main_v276)) (W (Proc.devRef .tc main_arg10)))) := by
  rw [c4last, c4var, after_of_writes_sub _ _ hostOps0_31_writes (r := main_v329) (by decide +kernel),
    after_of_writes_sub _ _ hostOps0_31_writes (r := main_v333) (by decide +kernel), c4conv, c4mean, c4zero,
    after_of_writes_sub _ _ hostOps0_31_writes (r := main_v66) (by decide +kernel), after_of_writes_sub _ _ hostOps0_30_writes (r := main_v66) (by decide +kernel)]
  rfl

/-! The edges' affinities of the last two stretches. -/
theorem d2unit (W : Vals) : after hostOps0_39 W (Proc.devRef .tc main_v357) = Host.sqrt (F := Ideal) (s := S1x4096x1) (φ := .f32) (broadcastInDim S1x4096x1 ![0, 1] bcast_S1x4096_S1x4096x1_0_1
      (Host.reduceAdd (F := Ideal) (s := S1x4096x64) (φ := .f32) (mulf (F := Ideal) (s := S1x4096x64) (φ := .f32) (W (Proc.devRef .tc main_v349)) (W (Proc.devRef .tc main_v349)))
        (constant S_ .f32 0x00000000#32) reducesTo_S1x4096x64_S1x4096_d2 h_S_)) := rfl
theorem d2last (W : Vals) : after hostOps0_40 W (Proc.devRef .tc main_v379_0) = affH (W (Proc.devRef .tc main_v356))
    (Host.divf (F := Ideal) (s := S1x4096x64) (φ := .f32) (W (Proc.devRef .tc main_v349)) (broadcastInDim S1x4096x64 ![0, 1, 2] bcast_S1x4096x1_S1x4096x64_0_1_2
    (addf (F := Ideal) (s := S1x4096x1) (φ := .f32) (W (Proc.devRef .tc main_v357)) (broadcastInDim S1x4096x1 ![] bcast_S_S1x4096x1 (constant S_ .f32 0x322BCC77#32)))))
    (W (Proc.devRef .tc main_arg13)) (W (Proc.devRef .tc main_arg14)) := by
  after_reads_simp
  rfl
theorem d2all (W : Vals) : after hostOps0_40 (after hostOps0_39 W) (Proc.devRef .tc main_v379_0) = affH (W (Proc.devRef .tc main_v356))
    (unitH (W (Proc.devRef .tc main_v349))) (W (Proc.devRef .tc main_arg13)) (W (Proc.devRef .tc main_arg14)) := by
  rw [d2last, d2unit, after_of_writes_sub _ _ hostOps0_39_writes (r := main_v356) (by decide +kernel),
    after_of_writes_sub _ _ hostOps0_39_writes (r := main_v349) (by decide +kernel), keep_main_arg13_hostOps0_39, keep_main_arg14_hostOps0_39]
  rfl

section
variable (V : Vals)

/-! ### The features -/
theorem a1 : vals V 2 (Proc.devRef .tc main_v1) = ring3H zeroW (firstH (V (Proc.devRef .tc main_arg0))) := rfl
theorem a2 : vals V 6 (Proc.devRef .tc main_v59) = sameH zeroW (reluH (biasH (conv3H (vals V 2 (Proc.devRef .tc main_v1))
    (vals V 2 (Proc.devRef .tc main_arg1))) (vals V 2 (Proc.devRef .tc main_arg2)))) := rfl
theorem a3 : vals V 8 (Proc.devRef .tc main_v66) = reluH (biasH (conv1H (vals V 6 (Proc.devRef .tc main_v59))
    (vals V 6 (Proc.devRef .tc main_arg3))) (vals V 6 (Proc.devRef .tc main_arg4))) := rfl

/-! ### The first branch -/
theorem b1 : vals V 10 (Proc.devRef .tc main_v67) = ringH zeroW (vals V 8 (Proc.devRef .tc main_v66)) := rfl
theorem b2 : vals V 13 (Proc.devRef .tc main_v132) = bnormH zeroW (convH (vals V 10 (Proc.devRef .tc main_v67))
    (vals V 10 (Proc.devRef .tc main_arg5))) := b2norm (vals V 10)
theorem b3 : vals V 16 (Proc.devRef .tc main_v134) = ringH zeroW (reluH (vals V 13 (Proc.devRef .tc main_v132))) := rfl
theorem b4 : vals V 19 (Proc.devRef .tc main_v200) = addf (F := Ideal) (s := S1x64x64x64) (φ := .f32) (vals V 16 (Proc.devRef .tc main_v66))
    (bnormH zeroW (convH (vals V 16 (Proc.devRef .tc main_v134)) (vals V 16 (Proc.devRef .tc main_arg6)))) := b4norm (vals V 16)
theorem b5 : vals V 22 (Proc.devRef .tc main_v202) = sameH zeroW (reluH (vals V 19 (Proc.devRef .tc main_v200))) := rfl
theorem b6 : vals V 23 (Proc.devRef .tc main_v208) = biasH (conv1H (vals V 22 (Proc.devRef .tc main_v202))
    (vals V 22 (Proc.devRef .tc main_arg7))) (vals V 22 (Proc.devRef .tc main_arg8)) := rfl

/-! ### The second branch -/
theorem c1 : vals V 24 (Proc.devRef .tc main_v209) = ringH zeroW (vals V 22 (Proc.devRef .tc main_v66)) := rfl
theorem c2 : vals V 27 (Proc.devRef .tc main_v274) = bnormH zeroW (convH (vals V 24 (Proc.devRef .tc main_v209))
    (vals V 24 (Proc.devRef .tc main_arg9))) := c2norm (vals V 24)
theorem c3 : vals V 30 (Proc.devRef .tc main_v276) = ringH zeroW (reluH (vals V 27 (Proc.devRef .tc main_v274))) := rfl
theorem c4 : vals V 33 (Proc.devRef .tc main_v342) = addf (F := Ideal) (s := S1x64x64x64) (φ := .f32) (vals V 30 (Proc.devRef .tc main_v66))
    (bnormH zeroW (convH (vals V 30 (Proc.devRef .tc main_v276)) (vals V 30 (Proc.devRef .tc main_arg10)))) := c4norm (vals V 30)
theorem c5 : vals V 36 (Proc.devRef .tc main_v344) = sameH zeroW (reluH (vals V 33 (Proc.devRef .tc main_v342))) := rfl
theorem c6 : vals V 37 (Proc.devRef .tc main_v351) = flatH (conv1H (vals V 36 (Proc.devRef .tc main_v344))
    (vals V 36 (Proc.devRef .tc main_arg11))) := rfl
theorem c7 : vals V 37 (Proc.devRef .tc main_v349) = flatH (vals V 36 (Proc.devRef .tc main_v208)) := rfl

/-! ### The edges -/
theorem d1 : vals V 39 (Proc.devRef .tc main_v356) = unitH (vals V 37 (Proc.devRef .tc main_v351)) := rfl
theorem d2 : vals V 41 (Proc.devRef .tc main_v379_0) = affH (vals V 39 (Proc.devRef .tc main_v356))
    (unitH (vals V 39 (Proc.devRef .tc main_v349))) (vals V 39 (Proc.devRef .tc main_arg13)) (vals V 39 (Proc.devRef .tc main_arg14)) := d2all (vals V 39)
theorem d3 : vals V 41 (Proc.devRef .tc main_v379_1) = vals V 40 (Proc.devRef .tc main_arg14) := rfl
theorem d4 : vals V 41 (Proc.devRef .tc main_v379_2) = vals V 40 (Proc.devRef .tc main_arg13) := rfl
theorem d5 : vals V 41 (Proc.devRef .tc main_v379_4) = vals V 40 (Proc.devRef .tc main_arg12) := rfl

end

end Cert.RV
-- ==== Proof.RefFeatures.lean ====
/- The reference before its loop as the network's mathematics: the affinities of the edges come from the unit vectors of
   the two branches. -/
module

public import proofs.«01_k».proof.Proof.RefEntry

@[expose] public section

set_option maxRecDepth 16384

noncomputable section

namespace Cert.RV

open Idealize.ShloMosaic Idealize.ShloMosaic.StableHlo Cert.ReferenceIdeal Cert.ReferenceIdeal.Gen Cert.ReferenceIdeal.Facts Cert.ReferenceIdeal.Value Cert.Scene

/-- The image held by an array [1, pixels, channels]. -/
def flat {C : ℕ} (x : FVec Ideal ⟨3, ![1, 4096, C]⟩ .f32) : Img C := fun p c => x (ix3 0 p c)

theorem flatH_eq (x : FVec Ideal S1x64x64x64 .f32) : flat (C := 64) (flatH x) = chan (C := 64) x := by
  funext p c
  refine (transpose_apply _ _ _ (ix3 0 p c) (ix3 0 c p) fun a => match a with | ⟨0, _⟩ => rfl | ⟨1, _⟩ => rfl | ⟨2, _⟩ => rfl).trans ?_
  refine shapeCast_apply x _ (ix3 0 c p) (ix4 0 c (py p) (px p)) ?_
  refine (Shape.rowMajor_val_four _).trans (Eq.trans ?_ (Shape.rowMajor_val_three _).symm)
  show ((0 * 64 + c.val) * 64 + p.val / 64) * 64 + p.val % 64 = (0 * 64 + c.val) * 4096 + p.val
  omega

theorem unitH_eq (x : FVec Ideal S1x4096x64 .f32) : flat (C := 64) (unitH x) = unit (flat (C := 64) x) := by
  funext p c
  refine congrArg (Idealize.ShloMosaic.Ideal.div (x (ix3 0 p c))) ?_
  refine congrArg (fun v => Idealize.ShloMosaic.Ideal.sqrt v + eps8) ?_
  have h : Host.reduceAdd (F := Ideal) (mulf x x) (constant S_ .f32 0x00000000#32) reducesTo_S1x4096x64_S1x4096_d2 h_S_ (ix2 0 p)
      = ∑ c : Fin 64, x (ix3 0 p c) * x (ix3 0 p c) := by
    refine (ValueIdx.hostReduceAdd_apply _ _ _ _ _).trans ?_
    refine (congrArg (· + _) zero_bits).trans ((zero_add _).trans ?_)
    exact Shape.ReducesTo.sum_fiber_r3_a2 (n0 := 1) (n1 := 4096) (n2 := 64) reducesTo_S1x4096x64_S1x4096_d2 (ix2 0 p) (mulf x x)
  refine Eq.trans ?_ h
  exact congrArg (Host.reduceAdd (F := Ideal) (mulf x x) (constant S_ .f32 0x00000000#32) reducesTo_S1x4096x64_S1x4096_d2 h_S_)
    (funext fun a => match a with | ⟨0, _⟩ => rfl | ⟨1, _⟩ => rfl)

theorem sameH_eq (x : FVec Ideal S1x64x64x64 .f32) : sameH zeroW x = x := pad_none x _ _ _

theorem firstH_eq (x : FVec Ideal S1x64x64x3 .f32) : chan (C := 3) (firstH x) = picture (C := 3) x := by
  funext p c
  exact transpose_apply _ _ _ (ix4 0 c (py p) (px p)) (ix4 0 (py p) (px p) c)
    fun a => match a with | ⟨0, _⟩ => rfl | ⟨1, _⟩ => rfl | ⟨2, _⟩ => rfl | ⟨3, _⟩ => rfl

theorem ring3H_shows (x : FVec Ideal S1x3x64x64 .f32) : Shows (C := 3) (ring3H zeroW x) (chan (C := 3) x) :=
  fun a b p c => ring_at (C := 3) x _ _ _ sitofp_zero a.val b.val a.isLt b.isLt p c

theorem headH_eq (x : FVec Ideal S1x64x64x3 .f32) (w₁ : FVec Ideal S64x3x3x3 .f32) (b₁ : FVec Ideal S64 .f32)
    (w₂ : FVec Ideal S64x64x1x1 .f32) (b₂ : FVec Ideal S64 .f32) : chan (C := 64) (headH x w₁ b₁ w₂ b₂)
      = head (picture (C := 3) x) (kernel3 w₁) (offset b₁) (kernel1 w₂) (offset b₂) := by
  unfold headH head
  rw [sameH_eq, reluH_eq, biasH_eq, conv1H_eq, reluH_eq, biasH_eq, conv3H_eq _ _ _ (ring3H_shows _), firstH_eq]

/-- The second branch's unit vectors. -/
def queryH (h : FVec Ideal S1x64x64x64 .f32) (u₁ u₂ : FVec Ideal S64x64x3x3 .f32) (u₃ : FVec Ideal S64x64x1x1 .f32) : FVec Ideal S1x4096x64 .f32 :=
  unitH (flatH (conv1H (sameH zeroW (blockH h u₁ u₂)) u₃))

/-- The first branch's unit vectors. -/
def keyH (h : FVec Ideal S1x64x64x64 .f32) (u₁ u₂ : FVec Ideal S64x64x3x3 .f32) (u₃ : FVec Ideal S64x64x1x1 .f32) (b₃ : FVec Ideal S64 .f32) :
    FVec Ideal S1x4096x64 .f32 :=
  unitH (flatH (biasH (conv1H (sameH zeroW (blockH h u₁ u₂)) u₃) b₃))

theorem queryH_eq (h : FVec Ideal S1x64x64x64 .f32) (u₁ u₂ : FVec Ideal S64x64x3x3 .f32) (u₃ : FVec Ideal S64x64x1x1 .f32) :
    flat (C := 64) (queryH h u₁ u₂ u₃) = unit (conv1 (resblock (chan (C := 64) h) (kernel3 u₁) (kernel3 u₂)) (kernel1 u₃)) := by
  unfold queryH
  rw [unitH_eq, flatH_eq, conv1H_eq, sameH_eq, blockH_eq]

theorem keyH_eq (h : FVec Ideal S1x64x64x64 .f32) (u₁ u₂ : FVec Ideal S64x64x3x3 .f32) (u₃ : FVec Ideal S64x64x1x1 .f32) (b₃ : FVec Ideal S64 .f32) :
    flat (C := 64) (keyH h u₁ u₂ u₃ b₃)
      = unit (bias (conv1 (resblock (chan (C := 64) h) (kernel3 u₁) (kernel3 u₂)) (kernel1 u₃)) (offset b₃)) := by
  unfold keyH
  rw [unitH_eq, flatH_eq, biasH_eq, conv1H_eq, sameH_eq, blockH_eq]

section
variable (V : Vals)

theorem features : vals V 8 (Proc.devRef .tc main_v66) = headH (V (Proc.devRef .tc main_arg0)) (V (Proc.devRef .tc main_arg1))
    (V (Proc.devRef .tc main_arg2)) (V (Proc.devRef .tc main_arg3)) (V (Proc.devRef .tc main_arg4)) := by
  have k1 : vals V 2 (Proc.devRef .tc main_arg1) = V (Proc.devRef .tc main_arg1) := vals_keep V main_arg1 0 2 (by decide +kernel)
  have k2 : vals V 2 (Proc.devRef .tc main_arg2) = V (Proc.devRef .tc main_arg2) := vals_keep V main_arg2 0 2 (by decide +kernel)
  have k3 : vals V 6 (Proc.devRef .tc main_arg3) = V (Proc.devRef .tc main_arg3) := vals_keep V main_arg3 0 6 (by decide +kernel)
  have k4 : vals V 6 (Proc.devRef .tc main_arg4) = V (Proc.devRef .tc main_arg4) := vals_keep V main_arg4 0 6 (by decide +kernel)
  rw [a3, a2, a1, k1, k2, k3, k4]
  rfl

theorem keys : vals V 39 (Proc.devRef .tc main_v349) = flatH (biasH (conv1H (sameH zeroW (blockH (vals V 8 (Proc.devRef .tc main_v66))
    (V (Proc.devRef .tc main_arg5)) (V (Proc.devRef .tc main_arg6)))) (V (Proc.devRef .tc main_arg7))) (V (Proc.devRef .tc main_arg8))) := by
  have k5 : vals V 10 (Proc.devRef .tc main_arg5) = V (Proc.devRef .tc main_arg5) := vals_keep V main_arg5 0 10 (by decide +kernel)
  have k6 : vals V 16 (Proc.devRef .tc main_arg6) = V (Proc.devRef .tc main_arg6) := vals_keep V main_arg6 0 16 (by decide +kernel)
  have k7 : vals V 22 (Proc.devRef .tc main_arg7) = V (Proc.devRef .tc main_arg7) := vals_keep V main_arg7 0 22 (by decide +kernel)
  have k8 : vals V 22 (Proc.devRef .tc main_arg8) = V (Proc.devRef .tc main_arg8) := vals_keep V main_arg8 0 22 (by decide +kernel)
  have kh : vals V 16 (Proc.devRef .tc main_v66) = vals V 8 (Proc.devRef .tc main_v66) := vals_keep V main_v66 8 8 (by decide +kernel)
  have kk : vals V 36 (Proc.devRef .tc main_v208) = vals V 23 (Proc.devRef .tc main_v208) := vals_keep V main_v208 23 13 (by decide +kernel)
  have kf : vals V 39 (Proc.devRef .tc main_v349) = vals V 37 (Proc.devRef .tc main_v349) := vals_keep V main_v349 37 2 (by decide +kernel)
  rw [kf, c7, kk, b6, b5, b4, b3, b2, b1, k5, k6, k7, k8, kh]
  rfl

theorem queries : vals V 39 (Proc.devRef .tc main_v356) = queryH (vals V 8 (Proc.devRef .tc main_v66))
    (V (Proc.devRef .tc main_arg9)) (V (Proc.devRef .tc main_arg10)) (V (Proc.devRef .tc main_arg11)) := by
  have k9 : vals V 24 (Proc.devRef .tc main_arg9) = V (Proc.devRef .tc main_arg9) := vals_keep V main_arg9 0 24 (by decide +kernel)
  have k10 : vals V 30 (Proc.devRef .tc main_arg10) = V (Proc.devRef .tc main_arg10) := vals_keep V main_arg10 0 30 (by decide +kernel)
  have k11 : vals V 36 (Proc.devRef .tc main_arg11) = V (Proc.devRef .tc main_arg11) := vals_keep V main_arg11 0 36 (by decide +kernel)
  have kh : vals V 22 (Proc.devRef .tc main_v66) = vals V 8 (Proc.devRef .tc main_v66) := vals_keep V main_v66 8 14 (by decide +kernel)
  have kh' : vals V 30 (Proc.devRef .tc main_v66) = vals V 8 (Proc.devRef .tc main_v66) := vals_keep V main_v66 8 22 (by decide +kernel)
  rw [d1, c6, c5, c4, c3, c2, c1, k9, k10, k11, kh, kh']
  rfl

/-- The features of the launch contents. -/
def featH : FVec Ideal S1x64x64x64 .f32 := headH (V (Proc.devRef .tc main_arg0)) (V (Proc.devRef .tc main_arg1))
    (V (Proc.devRef .tc main_arg2)) (V (Proc.devRef .tc main_arg3)) (V (Proc.devRef .tc main_arg4))

/-- The queries' unit vectors of the launch contents. -/
def qH : FVec Ideal S1x4096x64 .f32 := queryH (featH V) (V (Proc.devRef .tc main_arg9)) (V (Proc.devRef .tc main_arg10)) (V (Proc.devRef .tc main_arg11))

/-- The keys' unit vectors of the launch contents. -/
def kH : FVec Ideal S1x4096x64 .f32 := keyH (featH V) (V (Proc.devRef .tc main_arg5)) (V (Proc.devRef .tc main_arg6))
  (V (Proc.devRef .tc main_arg7)) (V (Proc.devRef .tc main_arg8))

/-- The affinities the loop starts from. -/
theorem entry_wts : vals V 41 (Proc.devRef .tc main_v379_0)
    = affH (qH V) (kH V) (V (Proc.devRef .tc main_arg13)) (V (Proc.devRef .tc main_arg14)) := by
  have k13 : vals V 39 (Proc.devRef .tc main_arg13) = V (Proc.devRef .tc main_arg13) := vals_keep V main_arg13 0 39 (by decide +kernel)
  have k14 : vals V 39 (Proc.devRef .tc main_arg14) = V (Proc.devRef .tc main_arg14) := vals_keep V main_arg14 0 39 (by decide +kernel)
  rw [d2, k13, k14, queries, keys, features]
  rfl

theorem entry_row : vals V 41 (Proc.devRef .tc main_v379_2) = V (Proc.devRef .tc main_arg13) :=
  (d4 V).trans (vals_keep V main_arg13 0 40 (by decide +kernel))
theorem entry_col : vals V 41 (Proc.devRef .tc main_v379_1) = V (Proc.devRef .tc main_arg14) :=
  (d3 V).trans (vals_keep V main_arg14 0 40 (by decide +kernel))
theorem entry_state : vals V 41 (Proc.devRef .tc main_v379_4) = V (Proc.devRef .tc main_arg12) :=
  (d5 V).trans (vals_keep V main_arg12 0 40 (by decide +kernel))

end

end Cert.RV
-- ==== Proof.Edges.lean ====
/- The edges of the 64 by 64 grid: nine runs of edges, one for each place of the 3 by 3 window. The edges that end at a
   pixel are its neighbours, one for each place of the window that lies in the grid. -/
module

public import proofs.«01_k».proof.Proof.Scene

@[expose] public section

noncomputable section

namespace Cert.Scene

open Idealize.ShloMosaic

/-- How many rows (columns) of pixels have a neighbour at distance `a - 1`. -/
def span (a : Fin 3) : ℕ := if a = 1 then 64 else 63
/-- The first such row (column). -/
def first (a : Fin 3) : ℕ := if a = 0 then 1 else 0
/-- The first row (column) of their neighbours. -/
def second (a : Fin 3) : ℕ := if a = 2 then 1 else 0
/-- The number of the run's first edge. -/
def base (a b : Fin 3) : ℕ := (![![0, 3969, 8001], ![11970, 16002, 20098], ![24130, 28099, 32131]] : Fin 3 → Fin 3 → ℕ) a b

/-- The pixel number `l` of a box of width `w` whose corner is `(r, c)`. -/
def cell (w r c l : ℕ) : ℕ := (l / w + r) * 64 + (l % w + c)

theorem base_add {a b : Fin 3} {l : ℕ} (h : l < span a * span b) : base a b + l < 36100 := by
  revert h
  fin_cases a <;> fin_cases b <;> simp [span, base] <;> omega

/-- The edge list of the grid: `row` lists the pixels, `col` their neighbours, as words. -/
def EdgeList (row col : Fin 36100 → BitVec 32) : Prop :=
  ∀ (a b : Fin 3) (l : ℕ) (h : l < span a * span b),
    row ⟨base a b + l, base_add h⟩ = BitVec.ofNat 32 (cell (span b) (first a) (first b) l)
    ∧ col ⟨base a b + l, base_add h⟩ = BitVec.ofNat 32 (cell (span b) (second a) (second b) l)

/-- Where pixel `p` stands in the run of `(a, b)`. -/
def place (a b : Fin 3) (p : ℕ) : ℕ := (p / 64 - first a) * span b + (p % 64 - first b)

theorem place_lt {a b : Fin 3} {p : Fin 4096} (h : Near a b p) : place a b p < span a * span b := by
  have hp := p.isLt
  revert h
  fin_cases a <;> fin_cases b <;> simp [span, place, first, Near] <;> omega

theorem cell_lt {a b : Fin 3} {l : ℕ} (h : l < span a * span b) : cell (span b) (first a) (first b) l < 4096 := by
  revert h
  fin_cases a <;> fin_cases b <;> simp [span, cell, first] <;> omega

theorem cell_place {a b : Fin 3} {p : ℕ} (h : Near a b p) : cell (span b) (first a) (first b) (place a b p) = p := by
  revert h
  fin_cases a <;> fin_cases b <;> simp [span, place, cell, first, Near] <;> omega

theorem cell_place' {a b : Fin 3} {p : ℕ} (h : Near a b p) :
    cell (span b) (second a) (second b) (place a b p) = p + 64 * a + b - 65 := by
  revert h
  fin_cases a <;> fin_cases b <;> simp [span, place, cell, first, second, Near] <;> omega

theorem place_cell {a b : Fin 3} {p l : ℕ} (h : l < span a * span b) (hp : cell (span b) (first a) (first b) l = p) :
    Near a b p ∧ l = place a b p := by
  revert h hp
  fin_cases a <;> fin_cases b <;> simp [span, place, cell, first, Near] <;> omega

/-- A sum over all edges, run by run. -/
theorem sum_runs (f : ℕ → EReal) : ∑ n ∈ Finset.range 36100, f n
    = ∑ a : Fin 3, ∑ b : Fin 3, ∑ l ∈ Finset.range (span a * span b), f (base a b + l) := by
  rw [sum_nine']
  have h : ∀ n m k, n + m = k → ∑ x ∈ Finset.range k, f x
      = ∑ x ∈ Finset.range n, f x + ∑ x ∈ Finset.range m, f (n + x) := fun n m k e => e ▸ Finset.sum_range_add f n m
  rw [h 32131 3969 36100 rfl, h 28099 4032 32131 rfl, h 24130 3969 28099 rfl, h 20098 4032 24130 rfl, h 16002 4096 20098 rfl,
    h 11970 4032 16002 rfl, h 8001 3969 11970 rfl, h 3969 4032 8001 rfl]
  have z : ∑ x ∈ Finset.range 3969, f x = ∑ x ∈ Finset.range 3969, f (0 + x) := by simp only [Nat.zero_add]
  rw [z]
  rfl

/-- The edges that end at pixel `p`: a sum over them is a sum over the places of the window. -/
theorem sum_edges {row col : Fin 36100 → BitVec 32} (h : EdgeList row col) (G : Fin 36100 → EReal) (p : Fin 4096) :
    ∑ e, (if (row e).toInt = (p.val : ℤ) then G e else 0)
      = ∑ a : Fin 3, ∑ b : Fin 3, if hn : Near a b p then G ⟨base a b + place a b p, base_add (place_lt hn)⟩ else 0 := by
  let f : ℕ → EReal := fun n => if hn : n < 36100 then (if (row ⟨n, hn⟩).toInt = (p.val : ℤ) then G ⟨n, hn⟩ else 0) else 0
  have e : ∑ e, (if (row e).toInt = (p.val : ℤ) then G e else 0) = ∑ e : Fin 36100, f e.val :=
    Finset.sum_congr rfl fun e _ => ((dif_pos e.isLt).trans rfl : f e.val = _).symm
  rw [e, Fin.sum_univ_eq_sum_range f 36100, sum_runs]
  refine Finset.sum_congr rfl fun a _ => Finset.sum_congr rfl fun b _ => ?_
  have hf : ∀ l (hl : l < span a * span b), f (base a b + l)
      = if cell (span b) (first a) (first b) l = p.val then G ⟨base a b + l, base_add hl⟩ else 0 := fun l hl => by
    have hc := cell_lt hl
    refine (dif_pos (base_add hl)).trans ?_
    rw [(h a b l hl).1, BitVec.toInt_ofNat']
    refine if_congr ?_ rfl rfl
    rw [Int.bmod_eq_of_le (by omega) (by omega)]
    exact Int.ofNat_inj
  by_cases hn : Near a b p
  · rw [dif_pos hn, Finset.sum_eq_single (place a b p)]
    · rw [hf _ (place_lt hn), if_pos (cell_place hn)]
    · intro l hl hne
      have hl' := Finset.mem_range.1 hl
      rw [hf _ hl', if_neg fun hp => hne (place_cell hl' hp).2]
    · intro hp
      exact absurd (Finset.mem_range.2 (place_lt hn)) hp
  · rw [dif_neg hn]
    refine Finset.sum_eq_zero fun l hl => ?_
    have hl' := Finset.mem_range.1 hl
    rw [hf _ hl', if_neg fun hp => hn (place_cell hl' hp).1]

end Cert.Scene
-- ==== Proof.GridEdges.lean ====
/- The precondition read: where it holds, the two integer arguments are the edge list of the grid. -/
module

public import proofs.«01_k».proof.Proof.Edges
public import proofs.«01_k».proof.Pre_grid_edges
public import Idealize.ShloMosaic.Lib.Pipeline.Value
public import Idealize.ShloMosaic.PureOps.Reduce

@[expose] public section

set_option maxRecDepth 16384

noncomputable section

namespace Cert.Scene

open Idealize.ShloMosaic Cert.Pre_grid_edges Cert.Pre_grid_edges.Facts

theorem and_left {x y : BitVec 1} (h : IntOp.andi x y = 1#1) : x = 1#1 := by revert x y; decide
theorem and_right {x y : BitVec 1} (h : IntOp.andi x y = 1#1) : y = 1#1 := by revert x y; decide

theorem foldl_and {α : Type} (x : α → BitVec 1) (l : List α) (v : BitVec 1)
    (h : l.foldl (fun r i => IntOp.andi r (x i)) v = 1#1) : v = 1#1 ∧ ∀ i ∈ l, x i = 1#1 := by
  induction l generalizing v with
  | nil => exact ⟨h, fun i hi => absurd hi List.not_mem_nil⟩
  | cons a l ih =>
    obtain ⟨h1, h2⟩ := ih _ h
    refine ⟨and_left h1, fun i hi => ?_⟩
    rcases List.mem_cons.1 hi with rfl | hi
    · exact and_right h1
    · exact h2 i hi

theorem eq_of_cmp {x y : BitVec 32} (h : IntOp.cmpi .eq x y = 1#1) : x = y := by
  by_contra hne
  have : (x == y) = false := beq_eq_false_iff_ne.2 hne
  unfold IntOp.cmpi at h
  simp only [this] at h
  exact absurd h (by decide)

section
variable [Cert.Pre_grid_edges.Facts]

/-- A conjunction over all elements holds of each. -/
theorem all_and (x : IVec S36100 1) (v : IVec S_ 1) (j : S_.Idx)
    (h : Host.reduce IntOp.andi x v reducesTo_S36100_S_d0 h_S_ j = 1#1) (i : S36100.Idx) : x i = 1#1 := by
  rw [Host.reduce_eq_foldl] at h
  refine (foldl_and x _ _ h).2 i (List.mem_filter.2 ⟨List.mem_map.2 ⟨S36100.rowMajor i, List.mem_finRange _, Equiv.symm_apply_apply _ _⟩, ?_⟩)
  exact decide_eq_true (funext fun a : Fin 0 => a.elim0)

end

/-- The grid of pixel numbers. -/
abbrev grid (h : S4096.ShapeCasts S64x64) : IVec S64x64 32 := shapeCast S64x64 (iotaInDim S4096 32 0) h

theorem grid_at (h : S4096.ShapeCasts S64x64) (y x : Fin 64) : grid h (ix2 y x) = BitVec.ofNat 32 (y * 64 + x) := by
  refine (shapeCast_apply _ h (ix2 y x) (ix1 ⟨y * 64 + x, by omega⟩) ?_).trans rfl
  exact (Shape.rowMajor_val_one _).trans (Shape.rowMajor_val_two (ix2 y x)).symm

/-- A box of the grid, listed row by row. -/
theorem box_at (h : S4096.ShapeCasts S64x64) {H W r c N : ℕ} (hs : S64x64.Slices ![r, c] ⟨2, ![H, W]⟩)
    (hc : (⟨2, ![H, W]⟩ : Shape).ShapeCasts ⟨1, ![N]⟩) (hr : r + H ≤ 64) (hw : c + W ≤ 64) (l : Fin N) (hl : l.val < H * W) :
    shapeCast ⟨1, ![N]⟩ (extractStridedSlice ⟨2, ![H, W]⟩ ![r, c] (grid h) hs) hc (ix1 l) = BitVec.ofNat 32 (cell W r c l) := by
  have hW : 0 < W := Nat.pos_of_ne_zero fun e => by subst e; simp at hl
  have h1 : l.val / W < H := Nat.div_lt_of_lt_mul (Nat.mul_comm H W ▸ hl)
  have h2 : l.val % W < W := Nat.mod_lt _ hW
  refine (shapeCast_apply _ hc (ix1 l) (ix2 ⟨l / W, h1⟩ ⟨l % W, h2⟩) ?_).trans ?_
  · refine (Shape.rowMajor_val_two _).trans (Eq.trans ?_ (Shape.rowMajor_val_one _).symm)
    exact Nat.div_add_mod' _ _
  · refine (extractStridedSlice_apply _ _ hs _ (ix2 ⟨l / W + r, by omega⟩ ⟨l % W + c, by omega⟩) fun a => ?_).trans (grid_at h _ _)
    match a with
    | ⟨0, _⟩ => exact Nat.add_comm _ _
    | ⟨1, _⟩ => exact Nat.add_comm _ _

/-- The whole grid, listed row by row. -/
theorem whole_at (h : S4096.ShapeCasts S64x64) (hc : S64x64.ShapeCasts S4096) (l : Fin 4096) :
    shapeCast S4096 (grid h) hc (ix1 l) = BitVec.ofNat 32 (cell 64 0 0 l) := by
  refine (shapeCast_apply _ hc (ix1 l) (ix2 ⟨l / 64, by omega⟩ ⟨l % 64, by omega⟩) ?_).trans ?_
  · refine (Shape.rowMajor_val_two _).trans (Eq.trans ?_ (Shape.rowMajor_val_one _).symm)
    exact Nat.div_add_mod' _ _
  · exact grid_at h _ _

/-- The shapes of the nine runs. -/
def runs : List Shape := [S3969, S4032, S3969, S4032, S4096, S4032, S3969, S4032, S3969]

/-- How many edges come before run `k`. -/
def before (k : ℕ) : ℕ :=
  ((runs.take k).map fun s => if h : s.rank = S36100.rank then s.size ((0 : Fin 1).cast h.symm) else 0).sum

/-- The runs joined, read in run `k`. -/
theorem joined_at (xs : List ((s : Shape) × IVec s 32)) (h : Shape.Concatenates (xs.map (·.1)) S36100 0) (hs : xs.map (·.1) = runs)
    (k : ℕ) {N : ℕ} (x : IVec ⟨1, ![N]⟩ 32) (hx : xs[k]? = some ⟨⟨1, ![N]⟩, x⟩) (pre : ℕ) (hpre : before k = pre)
    (l : ℕ) (hl : l < N) (hlt : pre + l < 36100) : concatenate S36100 0 xs h (ix1 ⟨pre + l, hlt⟩) = x (ix1 ⟨l, hl⟩) := by
  obtain ⟨hk', hx'⟩ := List.getElem?_eq_some_iff.1 hx
  refine concatenate_apply_piece 0 xs h (ix1 ⟨pre + l, hlt⟩) k hk' _ x hx' rfl pre ?_ (ix1 ⟨l, hl⟩)
    (fun _ hb => absurd (Subsingleton.elim (α := Fin 1) _ _) hb) rfl
  rw [List.map_take, hs]
  exact hpre

section
variable [Cert.Pre_grid_edges.Facts]

/-- The list of the edges' pixels. -/
def rowsH : IVec S36100 32 := concatenate S36100 0 [
    ⟨S3969, shapeCast S3969 (extractStridedSlice S63x63 ![1, 1] (grid shapeCasts_S4096_S64x64) slices_S64x64_S63x63_1_1) shapeCasts_S63x63_S3969⟩,
    ⟨S4032, shapeCast S4032 (extractStridedSlice S63x64 ![1, 0] (grid shapeCasts_S4096_S64x64) slices_S64x64_S63x64_1_0) shapeCasts_S63x64_S4032⟩,
    ⟨S3969, shapeCast S3969 (extractStridedSlice S63x63 ![1, 0] (grid shapeCasts_S4096_S64x64) slices_S64x64_S63x63_1_0) shapeCasts_S63x63_S3969⟩,
    ⟨S4032, shapeCast S4032 (extractStridedSlice S64x63 ![0, 1] (grid shapeCasts_S4096_S64x64) slices_S64x64_S64x63_0_1) shapeCasts_S64x63_S4032⟩,
    ⟨S4096, shapeCast S4096 (grid shapeCasts_S4096_S64x64) shapeCasts_S64x64_S4096⟩,
    ⟨S4032, shapeCast S4032 (extractStridedSlice S64x63 ![0, 0] (grid shapeCasts_S4096_S64x64) slices_S64x64_S64x63_0_0) shapeCasts_S64x63_S4032⟩,
    ⟨S3969, shapeCast S3969 (extractStridedSlice S63x63 ![0, 1] (grid shapeCasts_S4096_S64x64) slices_S64x64_S63x63_0_1) shapeCasts_S63x63_S3969⟩,
    ⟨S4032, shapeCast S4032 (extractStridedSlice S63x64 ![0, 0] (grid shapeCasts_S4096_S64x64) slices_S64x64_S63x64_0_0) shapeCasts_S63x64_S4032⟩,
    ⟨S3969, shapeCast S3969 (extractStridedSlice S63x63 ![0, 0] (grid shapeCasts_S4096_S64x64) slices_S64x64_S63x63_0_0) shapeCasts_S63x63_S3969⟩]
  concatenates_S3969_S4032_S3969_S4032_S4096_S4032_S3969_S4032_S3969_S36100_d0

/-- The list of their neighbours. -/
def colsH : IVec S36100 32 := concatenate S36100 0 [
    ⟨S3969, shapeCast S3969 (extractStridedSlice S63x63 ![0, 0] (grid shapeCasts_S4096_S64x64) slices_S64x64_S63x63_0_0) shapeCasts_S63x63_S3969⟩,
    ⟨S4032, shapeCast S4032 (extractStridedSlice S63x64 ![0, 0] (grid shapeCasts_S4096_S64x64) slices_S64x64_S63x64_0_0) shapeCasts_S63x64_S4032⟩,
    ⟨S3969, shapeCast S3969 (extractStridedSlice S63x63 ![0, 1] (grid shapeCasts_S4096_S64x64) slices_S64x64_S63x63_0_1) shapeCasts_S63x63_S3969⟩,
    ⟨S4032, shapeCast S4032 (extractStridedSlice S64x63 ![0, 0] (grid shapeCasts_S4096_S64x64) slices_S64x64_S64x63_0_0) shapeCasts_S64x63_S4032⟩,
    ⟨S4096, shapeCast S4096 (grid shapeCasts_S4096_S64x64) shapeCasts_S64x64_S4096⟩,
    ⟨S4032, shapeCast S4032 (extractStridedSlice S64x63 ![0, 1] (grid shapeCasts_S4096_S64x64) slices_S64x64_S64x63_0_1) shapeCasts_S64x63_S4032⟩,
    ⟨S3969, shapeCast S3969 (extractStridedSlice S63x63 ![1, 0] (grid shapeCasts_S4096_S64x64) slices_S64x64_S63x63_1_0) shapeCasts_S63x63_S3969⟩,
    ⟨S4032, shapeCast S4032 (extractStridedSlice S63x64 ![1, 0] (grid shapeCasts_S4096_S64x64) slices_S64x64_S63x64_1_0) shapeCasts_S63x64_S4032⟩,
    ⟨S3969, shapeCast S3969 (extractStridedSlice S63x63 ![1, 1] (grid shapeCasts_S4096_S64x64) slices_S64x64_S63x63_1_1) shapeCasts_S63x63_S3969⟩]
  concatenates_S3969_S4032_S3969_S4032_S4096_S4032_S3969_S4032_S3969_S36100_d0

/-- Piece by piece, the pixels of the run of `(a, b)`. -/
theorem rowsH_at (a b : Fin 3) (l : ℕ) (h : l < span a * span b) :
    rowsH (ix1 ⟨base a b + l, base_add h⟩) = BitVec.ofNat 32 (cell (span b) (first a) (first b) l) := by
  match a, b with
  | 0, 0 => exact (joined_at _ _ rfl 0 _ rfl 0 (by decide +kernel) l h (base_add h)).trans (box_at _ _ _ (by decide) (by decide) ⟨l, h⟩ h)
  | 0, 1 => exact (joined_at _ _ rfl 1 _ rfl 3969 (by decide +kernel) l h (base_add h)).trans (box_at _ _ _ (by decide) (by decide) ⟨l, h⟩ h)
  | 0, 2 => exact (joined_at _ _ rfl 2 _ rfl 8001 (by decide +kernel) l h (base_add h)).trans (box_at _ _ _ (by decide) (by decide) ⟨l, h⟩ h)
  | 1, 0 => exact (joined_at _ _ rfl 3 _ rfl 11970 (by decide +kernel) l h (base_add h)).trans (box_at _ _ _ (by decide) (by decide) ⟨l, h⟩ h)
  | 1, 1 => exact (joined_at _ _ rfl 4 _ rfl 16002 (by decide +kernel) l h (base_add h)).trans (whole_at _ _ ⟨l, h⟩)
  | 1, 2 => exact (joined_at _ _ rfl 5 _ rfl 20098 (by decide +kernel) l h (base_add h)).trans (box_at _ _ _ (by decide) (by decide) ⟨l, h⟩ h)
  | 2, 0 => exact (joined_at _ _ rfl 6 _ rfl 24130 (by decide +kernel) l h (base_add h)).trans (box_at _ _ _ (by decide) (by decide) ⟨l, h⟩ h)
  | 2, 1 => exact (joined_at _ _ rfl 7 _ rfl 28099 (by decide +kernel) l h (base_add h)).trans (box_at _ _ _ (by decide) (by decide) ⟨l, h⟩ h)
  | 2, 2 => exact (joined_at _ _ rfl 8 _ rfl 32131 (by decide +kernel) l h (base_add h)).trans (box_at _ _ _ (by decide) (by decide) ⟨l, h⟩ h)

/-- Piece by piece, the neighbours of the run of `(a, b)`. -/
theorem colsH_at (a b : Fin 3) (l : ℕ) (h : l < span a * span b) :
    colsH (ix1 ⟨base a b + l, base_add h⟩) = BitVec.ofNat 32 (cell (span b) (second a) (second b) l) := by
  match a, b with
  | 0, 0 => exact (joined_at _ _ rfl 0 _ rfl 0 (by decide +kernel) l h (base_add h)).trans (box_at _ _ _ (by decide) (by decide) ⟨l, h⟩ h)
  | 0, 1 => exact (joined_at _ _ rfl 1 _ rfl 3969 (by decide +kernel) l h (base_add h)).trans (box_at _ _ _ (by decide) (by decide) ⟨l, h⟩ h)
  | 0, 2 => exact (joined_at _ _ rfl 2 _ rfl 8001 (by decide +kernel) l h (base_add h)).trans (box_at _ _ _ (by decide) (by decide) ⟨l, h⟩ h)
  | 1, 0 => exact (joined_at _ _ rfl 3 _ rfl 11970 (by decide +kernel) l h (base_add h)).trans (box_at _ _ _ (by decide) (by decide) ⟨l, h⟩ h)
  | 1, 1 => exact (joined_at _ _ rfl 4 _ rfl 16002 (by decide +kernel) l h (base_add h)).trans (whole_at _ _ ⟨l, h⟩)
  | 1, 2 => exact (joined_at _ _ rfl 5 _ rfl 20098 (by decide +kernel) l h (base_add h)).trans (box_at _ _ _ (by decide) (by decide) ⟨l, h⟩ h)
  | 2, 0 => exact (joined_at _ _ rfl 6 _ rfl 24130 (by decide +kernel) l h (base_add h)).trans (box_at _ _ _ (by decide) (by decide) ⟨l, h⟩ h)
  | 2, 1 => exact (joined_at _ _ rfl 7 _ rfl 28099 (by decide +kernel) l h (base_add h)).trans (box_at _ _ _ (by decide) (by decide) ⟨l, h⟩ h)
  | 2, 2 => exact (joined_at _ _ rfl 8 _ rfl 32131 (by decide +kernel) l h (base_add h)).trans (box_at _ _ _ (by decide) (by decide) ⟨l, h⟩ h)

/-- Where the precondition holds, `row` and `col` are the edge list of the grid. -/
theorem edgeList (x : FVec Ideal S1x64x64x3 .f32) (w₁ : FVec Ideal S64x3x3x3 .f32) (b₁ : FVec Ideal S64 .f32) (w₂ : FVec Ideal S64x64x1x1 .f32)
    (b₂ : FVec Ideal S64 .f32) (u₁ u₂ : FVec Ideal S64x64x3x3 .f32) (u₃ : FVec Ideal S64x64x1x1 .f32) (b₃ : FVec Ideal S64 .f32)
    (q₁ q₂ : FVec Ideal S64x64x3x3 .f32) (q₃ : FVec Ideal S64x64x1x1 .f32) (s : FVec Ideal S1x4096x128 .f32) (row col : IVec S36100 32)
    (h : Cert.Pre_grid_edges.fn (F := Ideal) x w₁ b₁ w₂ b₂ u₁ u₂ u₃ b₃ q₁ q₂ q₃ s row col = fun _ => 1#1) :
    EdgeList (fun e => row (ix1 e)) (fun e => col (ix1 e)) := by
  have h0 : IntOp.andi (Host.reduce IntOp.andi (cmpi .eq row rowsH) (constantI S_ 1 1#1) reducesTo_S36100_S_d0 h_S_ (Shape.Idx.first h_S_))
      (Host.reduce IntOp.andi (cmpi .eq col colsH) (constantI S_ 1 1#1) reducesTo_S36100_S_d0 h_S_ (Shape.Idx.first h_S_)) = 1#1 :=
    congrFun h (Shape.Idx.first h_S_)
  intro a b l hl
  exact ⟨(eq_of_cmp (all_and _ _ _ (and_left h0) _)).trans (rowsH_at a b l hl),
    (eq_of_cmp (all_and _ _ _ (and_right h0) _)).trans (colsH_at a b l hl)⟩

end

end Cert.Scene
-- ==== Proof.RefLoop.lean ====
/- The reference's loop: every round gathers the neighbours' states along the edges, weighted by the affinities, adds
   them up at the edges' pixels and divides every pixel's state by its length. -/
module

public import proofs.«01_k».proof.Proof.RefFeatures
public import proofs.«01_k».proof.Proof.GridEdges
public import Idealize.ShloMosaic.Lib.Routing.Ops
public import Idealize.ShloMosaic.Lib.Routing.OpsPair

@[expose] public section

set_option maxRecDepth 16384

noncomputable section

namespace Cert.RV

open Idealize.ShloMosaic Idealize.ShloMosaic.StableHlo Cert.ReferenceIdeal Cert.ReferenceIdeal.Gen Cert.ReferenceIdeal.Facts Cert.ReferenceIdeal.Value Cert.Scene

/-- A pixel number is not negative, so it is taken as it is. -/
theorem wrapH_at (i : IVec S36100 32) (e : Fin 36100) (p : Fin 4096) (h : i (ix1 e) = BitVec.ofNat 32 p) :
    wrapH i (ix2 e 0) = BitVec.ofNat 32 p := by
  have h1 : wrapH i (ix2 e 0) = select (cmpi .slt i (broadcastInDim S36100 ![] bcast_S_S36100 (constantI S_ 32 0#32)))
      (addi i (broadcastInDim S36100 ![] bcast_S_S36100 (constantI S_ 32 4096#32))) i (ix1 e) :=
    congrArg (select (cmpi .slt i (broadcastInDim S36100 ![] bcast_S_S36100 (constantI S_ 32 0#32)))
      (addi i (broadcastInDim S36100 ![] bcast_S_S36100 (constantI S_ 32 4096#32))) i) (funext fun a => match a with | ⟨0, _⟩ => rfl)
  refine h1.trans (Eq.trans ?_ h)
  refine Routing.wrap_of_lt (i (ix1 e)) _ ?_
  rw [h, BitVec.toNat_ofNat]
  have := p.isLt
  omega

/-- The rows of an array [1, pixels, channels] fetched by pixel numbers. -/
theorem fetch_at (x : FVec Ideal S1x4096x64 .f32) (idx : IVec S36100x1 32) (e : Fin 36100) (c : Fin 64) (p : Fin 4096)
    (h : idx (ix2 e 0) = BitVec.ofNat 32 p) :
    Host.gather gather_S1x4096x64_S36100x1_S1x36100x64_02_1_n_n_1_1_1164 x idx (ix3 0 e c) = x (ix3 0 p c) := by
  unfold Host.gather
  refine congrArg x (funext fun a => Fin.ext ?_)
  let d := gather_S1x4096x64_S36100x1_S1x36100x64_02_1_n_n_1_1_1164
  match a with
  | ⟨0, _⟩ => rfl
  | ⟨1, _⟩ =>
    show d.start (ix3 0 e c) idx 1 + d.batchCoord (ix3 0 e c) 1 + d.offCoord (ix3 0 e c) 1 = p.val
    have hs : d.start (ix3 0 e c) idx 1 = min (idx (ix2 e 0)).toInt.toNat 4095 := by
      unfold GatherDims.start
      rw [dif_pos (by decide)]
      refine congrArg (fun k => min (idx k).toInt.toNat 4095) (funext fun b => ?_)
      match b with
      | ⟨0, _⟩ => rfl
      | ⟨1, _⟩ => rfl
    have h0 : d.batchCoord (ix3 0 e c) 1 = 0 := rfl
    have h1 : d.offCoord (ix3 0 e c) 1 = 0 := rfl
    have hp := p.isLt
    rw [hs, h0, h1, h, StableHlo.Predicate.toInt_ofNat_small _ (by omega)]
    show min ((p.val : ℤ)).toNat 4095 + 0 + 0 = p.val
    omega
  | ⟨2, _⟩ =>
    show d.start (ix3 0 e c) idx 2 + d.batchCoord (ix3 0 e c) 2 + d.offCoord (ix3 0 e c) 2 = c.val
    have hs : d.start (ix3 0 e c) idx 2 = 0 := rfl
    have h0 : d.batchCoord (ix3 0 e c) 2 = 0 := rfl
    have h1 : d.offCoord (ix3 0 e c) 2 = c.val := rfl
    rw [hs, h0, h1]
    omega

/-- The affinity of an edge from `p` to `r`. -/
theorem affH_at (q k : FVec Ideal S1x4096x64 .f32) (row col : IVec S36100 32) (e : Fin 36100) (p r : Fin 4096)
    (hp : row (ix1 e) = BitVec.ofNat 32 p) (hr : col (ix1 e) = BitVec.ofNat 32 r) :
    affH q k row col (ix1 e) = ∑ c, flat (C := 64) q p c * flat (C := 64) k r c := by
  unfold affH
  refine (shapeCast_apply _ shapeCasts_S1x36100_S36100 (ix1 e) (ix2 0 e) ?_).trans ?_
  · refine (Shape.rowMajor_val_two _).trans (Eq.trans ?_ (Shape.rowMajor_val_one _).symm)
    show 0 * 36100 + e.val = e.val
    omega
  refine (ValueIdx.hostReduceAdd_apply _ _ _ _ _).trans ?_
  refine (congrArg (· + _) zero_bits).trans ((zero_add _).trans ?_)
  refine (Shape.ReducesTo.sum_fiber_r3_a2 (n0 := 1) (n1 := 36100) (n2 := 64) reducesTo_S1x36100x64_S1x36100_d2 (ix2 0 e) _).trans ?_
  refine Finset.sum_congr rfl fun c _ => ?_
  exact congrArg₂ (· * ·) (fetch_at q _ e c p (wrapH_at row e p hp)) (fetch_at k _ e c r (wrapH_at col e r hr))

/-- Update `(e, c')` lands at `(p, c)` where the edge's pixel is `p` and the channel is `c`. -/
theorem lands (idx : IVec S36100x1 32) (e : Fin 36100) (p : Fin 4096) (c' c : Fin 128) :
    scatter_S4096x128_S36100x1_S36100x128_1_0_0_1.resultIdx? (ix2 e c') idx = some (ix2 p c)
      ↔ (idx (ix2 e 0)).toInt = (p.val : ℤ) ∧ c' = c := by
  let d := scatter_S4096x128_S36100x1_S36100x128_1_0_0_1
  have hs : d.start (ix2 e c') idx 0 = (idx (ix2 e 0)).toInt := by
    unfold ScatterDims.start
    rw [dif_pos (by decide)]
    refine congrArg (fun k => (idx k).toInt) (funext fun b => ?_)
    match b with
    | ⟨0, _⟩ => rfl
    | ⟨1, _⟩ => rfl
  have h0 : d.window (ix2 e c') 0 = 0 := rfl
  have h1 : d.start (ix2 e c') idx 1 = 0 := rfl
  have h2 : d.window (ix2 e c') 1 = c'.val := rfl
  refine (Routing.resultIdx?_ix2 d (ix2 e c') idx p c).trans ?_
  rw [hs, h0, h1, h2]
  constructor
  · rintro ⟨ha, hb⟩
    exact ⟨by omega, Fin.ext (by omega)⟩
  · rintro ⟨ha, rfl⟩
    exact ⟨by omega, by omega⟩

/-- Updates added up at the edges' pixels. -/
theorem added_at (z : FVec Ideal S4096x128 .f32) (idx : IVec S36100x1 32) (u : FVec Ideal S36100x128 .f32) (p : Fin 4096) (c : Fin 128) :
    Host.scatterAdd scatter_S4096x128_S36100x1_S36100x128_1_0_0_1 z idx u (ix2 p c)
      = z (ix2 p c) + ∑ e : Fin 36100, if (idx (ix2 e 0)).toInt = (p.val : ℤ) then u (ix2 e c) else 0 := by
  refine congrArg (z (ix2 p c) + ·) ?_
  rw [← Finset.sum_filter]
  refine Finset.sum_nbij' (fun j => j 0) (fun e => ix2 e c) ?_ ?_ ?_ ?_ ?_
  · intro j hj
    have e : j = ix2 (j 0) (j 1) := funext fun a => match a with | ⟨0, _⟩ => rfl | ⟨1, _⟩ => rfl
    have h := (Finset.mem_filter.1 hj).2
    rw [e] at h
    exact Finset.mem_filter.2 ⟨Finset.mem_univ _, ((lands idx _ p _ c).1 h).1⟩
  · intro e he
    exact Finset.mem_filter.2 ⟨Finset.mem_univ _, (lands idx e p c c).2 ⟨(Finset.mem_filter.1 he).2, rfl⟩⟩
  · intro j hj
    have e : j = ix2 (j 0) (j 1) := funext fun a => match a with | ⟨0, _⟩ => rfl | ⟨1, _⟩ => rfl
    have h := (Finset.mem_filter.1 hj).2
    rw [e] at h
    have hc := ((lands idx _ p _ c).1 h).2
    exact funext fun a => match a with | ⟨0, _⟩ => rfl | ⟨1, _⟩ => hc.symm
  · intro e _
    rfl
  · intro j hj
    have e : j = ix2 (j 0) (j 1) := funext fun a => match a with | ⟨0, _⟩ => rfl | ⟨1, _⟩ => rfl
    have h := (Finset.mem_filter.1 hj).2
    rw [e] at h
    have hc := ((lands idx _ p _ c).1 h).2
    exact congrArg u (funext fun a => match a with | ⟨0, _⟩ => rfl | ⟨1, _⟩ => hc)

/-- The messages of a round, one for each edge. -/
def messageH (wts : FVec Ideal S36100 .f32) (col : IVec S36100 32) (s : FVec Ideal S1x4096x128 .f32) : FVec Ideal S36100x128 .f32 :=
  mulf (broadcastInDim S36100x128 ![0, 1] bcast_S36100x1_S36100x128_0_1 (broadcastInDim S36100x1 ![0] bcast_S36100_S36100x1_0 wts))
      (Host.gather gather_S4096x128_S36100x1_S36100x128_1_0_n_n_0_1_1128 (shapeCast S4096x128 s shapeCasts_S1x4096x128_S4096x128) (wrapH col))

/-- The messages of a round, added up. -/
def messagesH (wts : FVec Ideal S36100 .f32) (col row : IVec S36100 32) (s : FVec Ideal S1x4096x128 .f32) : FVec Ideal S4096x128 .f32 :=
  Host.scatterAdd scatter_S4096x128_S36100x1_S36100x128_1_0_0_1 (broadcastInDim S4096x128 ![] bcast_S_S4096x128 (constant S_ .f32 0x00000000#32))
    (broadcastInDim S36100x1 ![0] bcast_S36100_S36100x1_0 row)
    (messageH wts col s)

/-- One message: the neighbour's state times the affinity. -/
theorem message_at (wts : FVec Ideal S36100 .f32) (col : IVec S36100 32) (s : FVec Ideal S1x4096x128 .f32) (e : Fin 36100) (c : Fin 128)
    (r : Fin 4096) (hr : col (ix1 e) = BitVec.ofNat 32 r) :
    messageH wts col s (ix2 e c)
      = wts (ix1 e) * flat (C := 128) s r c := by
  refine congrArg₂ (· * ·) (congrArg wts (funext fun a => match a with | ⟨0, _⟩ => rfl)) ?_
  refine (Routing.gather_row gather_S4096x128_S36100x1_S36100x128_1_0_n_n_0_1_1128 rfl rfl rfl rfl rfl _ _ e c r (wrapH_at col e r hr) (by decide)).trans ?_
  refine shapeCast_apply s shapeCasts_S1x4096x128_S4096x128 (ix2 r c) (ix3 0 r c) ?_
  refine (Shape.rowMajor_val_three _).trans (Eq.trans ?_ (Shape.rowMajor_val_two (ix2 r c)).symm)
  show (0 * 4096 + r.val) * 128 + c.val = r.val * 128 + c.val
  omega

/-- On the grid's edges, the messages are the neighbours' states weighted by the affinities. -/
theorem messagesH_at (q k : FVec Ideal S1x4096x64 .f32) (row col : IVec S36100 32) (s : FVec Ideal S1x4096x128 .f32)
    (h : EdgeList (fun e => row (ix1 e)) (fun e => col (ix1 e))) (p : Fin 4096) (c : Fin 128) :
    messagesH (affH q k row col) col row s (ix2 p c)
      = gatherAll (flat (C := 64) q) (flat (C := 64) k) (flat (C := 128) s) p c := by
  unfold messagesH
  rw [added_at]
  refine (congrArg (· + _) zero_bits).trans ((zero_add _).trans ?_)
  have hrow : ∀ e : Fin 36100, broadcastInDim S36100x1 ![0] bcast_S36100_S36100x1_0 row (ix2 e 0) = row (ix1 e) := fun e =>
    congrArg row (funext fun a => match a with | ⟨0, _⟩ => rfl)
  simp only [hrow]
  refine (sum_edges h (fun e => messageH (affH q k row col) col s (ix2 e c)) p).trans ?_
  refine Finset.sum_congr rfl fun a _ => Finset.sum_congr rfl fun b _ => ?_
  by_cases hn : Near a b p
  · rw [dif_pos hn]
    obtain ⟨h1, h2⟩ := h a b _ (place_lt hn)
    rw [cell_place hn] at h1
    rw [cell_place' hn] at h2
    rw [message_at _ col s _ c ⟨p + 64 * a + b - 65, hn.lt⟩ h2, affH_at q k row col _ p ⟨p + 64 * a + b - 65, hn.lt⟩ h1 h2]
    unfold plane tap
    simp only [dif_pos hn]
  · rw [dif_neg hn, plane_far hn, zero_mul]

/-- Every pixel's state divided by its length. -/
def lengthH (r : FVec Ideal S4096x128 .f32) : FVec Ideal S1x4096x128 .f32 :=
  broadcastInDim S1x4096x128 ![1, 2] bcast_S4096x128_S1x4096x128_1_2 (Host.divf r
    (broadcastInDim S4096x128 ![0, 1] bcast_S4096x1_S4096x128_0_1 (addf (Host.sqrt (broadcastInDim S4096x1 ![0] bcast_S4096_S4096x1_0
      (Host.reduceAdd (mulf r r) (constant S_ .f32 0x00000000#32) reducesTo_S4096x128_S4096_d1 h_S_)))
      (broadcastInDim S4096x1 ![] bcast_S_S4096x1 (constant S_ .f32 0x322BCC77#32)))))

theorem lengthH_eq (r : FVec Ideal S4096x128 .f32) : flat (C := 128) (lengthH r) = unit fun p c => r (ix2 p c) := by
  funext p c
  have hi : ∀ i : S4096x128.Idx, (i 0).val = p.val → (i 1).val = c.val → i = ix2 p c := fun i h0 h1 =>
    funext fun a => match a with | ⟨0, _⟩ => Fin.ext h0 | ⟨1, _⟩ => Fin.ext h1
  refine congrArg₂ Idealize.ShloMosaic.Ideal.div (congrArg r (hi _ rfl rfl)) ?_
  refine congrArg (fun v => Idealize.ShloMosaic.Ideal.sqrt v + eps8) ?_
  have h : Host.reduceAdd (F := Ideal) (mulf r r) (constant S_ .f32 0x00000000#32) reducesTo_S4096x128_S4096_d1 h_S_ (ix1 p)
      = ∑ c : Fin 128, r (ix2 p c) * r (ix2 p c) := by
    refine (ValueIdx.hostReduceAdd_apply _ _ _ _ _).trans ?_
    refine (congrArg (· + _) zero_bits).trans ((zero_add _).trans ?_)
    exact Shape.ReducesTo.sum_fiber_r2_a1 (n0 := 4096) (n1 := 128) reducesTo_S4096x128_S4096_d1 (ix1 p) (mulf r r)
  refine Eq.trans ?_ h
  exact congrArg (Host.reduceAdd (F := Ideal) (mulf r r) (constant S_ .f32 0x00000000#32) reducesTo_S4096x128_S4096_d1 h_S_)
    (funext fun a => match a with | ⟨0, _⟩ => rfl)

/-- One round of the loop, of whatever the loop carries. -/
theorem step_eq (V : Vals) : step_main_v379_4 V = lengthH (messagesH (V (Proc.devRef .tc main_v379_0)) (V (Proc.devRef .tc main_v379_1))
    (V (Proc.devRef .tc main_v379_2)) (V (Proc.devRef .tc main_v379_4))) := rfl

/-- After `n` rounds. -/
theorem rounds (V : Vals) (q k : FVec Ideal S1x4096x64 .f32) (row col : IVec S36100 32)
    (h : EdgeList (fun e => row (ix1 e)) (fun e => col (ix1 e)))
    (h0 : V (Proc.devRef .tc main_v379_0) = affH q k row col) (h1 : V (Proc.devRef .tc main_v379_1) = col)
    (h2 : V (Proc.devRef .tc main_v379_2) = row) (n : ℕ) :
    (STEP^[n] V) (Proc.devRef .tc main_v379_0) = affH q k row col ∧ (STEP^[n] V) (Proc.devRef .tc main_v379_1) = col
    ∧ (STEP^[n] V) (Proc.devRef .tc main_v379_2) = row
    ∧ flat (C := 128) ((STEP^[n] V) (Proc.devRef .tc main_v379_4))
      = (Scene.round (flat (C := 64) q) (flat (C := 64) k))^[n] (flat (C := 128) (V (Proc.devRef .tc main_v379_4))) := by
  induction n with
  | zero => exact ⟨h0, h1, h2, rfl⟩
  | succ n ih =>
    obtain ⟨i0, i1, i2, i4⟩ := ih
    rw [Function.iterate_succ_apply', Function.iterate_succ_apply']
    refine ⟨(STEP_main_v379_0 _).trans i0, (STEP_main_v379_1 _).trans i1, (STEP_main_v379_2 _).trans i2, ?_⟩
    rw [STEP_main_v379_4, step_eq, i0, i1, i2, lengthH_eq, ← i4]
    unfold Scene.round
    exact congrArg unit (funext fun p => funext fun c => messagesH_at q k row col _ h p c)

end Cert.RV
-- ==== Proof.RefTail.lean ====
/- The reference after its loop: how well every pixel fits the sixteen agents, and the softmax of that. -/
module

public import proofs.«01_k».proof.Proof.RefFeatures

@[expose] public section

set_option maxRecDepth 16384

noncomputable section

namespace Cert.RV

open Idealize.ShloMosaic Idealize.ShloMosaic.StableHlo Cert.ReferenceIdeal Cert.ReferenceIdeal.Gen Cert.ReferenceIdeal.Facts Cert.ReferenceIdeal.Value Cert.Scene

/-- The fit of every pixel to every agent. -/
def fitH (s : FVec Ideal S1x4096x128 .f32) : FVec Ideal S1x4096x16 .f32 :=
  Host.dotGeneral dot_S1x4096x128_S1x16x128_S1x4096x16_2_2_1_1_0_0 none s
    (Host.slice S1x16x128 ![0, 0, 0] ![1, 273, 1] s slicesBy_S1x4096x128_S1x16x128_0s1_0s273_0s1)

/-- The agents are every 273rd pixel. -/
theorem agents_at (s : FVec Ideal S1x4096x128 .f32) (m : Fin 16) (c : Fin 128) :
    Host.slice S1x16x128 ![0, 0, 0] ![1, 273, 1] s slicesBy_S1x4096x128_S1x16x128_0s1_0s273_0s1 (ix3 0 m c) = s (ix3 0 (agent m) c) := by
  refine congrArg s (funext fun a => Fin.ext ?_)
  match a with
  | ⟨0, _⟩ => rfl
  | ⟨1, _⟩ =>
    show 0 + 273 * m.val = 273 * m.val
    omega
  | ⟨2, _⟩ =>
    show 0 + 1 * c.val = c.val
    omega

theorem fitH_at (s : FVec Ideal S1x4096x128 .f32) (p : Fin 4096) (m : Fin 16) :
    fitH s (ix3 0 p m) = logits (flat (C := 128) s) p m := by
  unfold fitH
  simp only [Host.dotGeneral]
  refine (Idealize.ShloMosaic.Ideal.dotGeneral_apply _ _ _ _ _ _).trans ?_
  refine (DotDims.sum_contr₁ dot_S1x4096x128_S1x16x128_S1x4096x16_2_2_1_1_0_0 (a := 2) rfl (K := 128) rfl _).trans ?_
  refine Finset.sum_congr rfl fun c _ => congrArg₂ (· * ·) (congrArg s ?_) (Eq.trans (congrArg _ ?_) (agents_at s m c))
  · exact funext fun a => match a with | ⟨0, _⟩ => rfl | ⟨1, _⟩ => rfl | ⟨2, _⟩ => rfl
  · exact funext fun a => match a with | ⟨0, _⟩ => rfl | ⟨1, _⟩ => rfl | ⟨2, _⟩ => rfl

/-- The greatest fit of every pixel. -/
def mostH (l : FVec Ideal S1x4096x16 .f32) : FVec Ideal S1x4096 .f32 :=
  maximumf (broadcastInDim S1x4096 ![] bcast_S_S1x4096 (constant S_ .f32 0xFF800000#32))
    (Host.reduce (FloatOps.maximumf (φ := .f32)) l (constant S_ .f32 0xFF800000#32) reducesTo_S1x4096x16_S1x4096_d2 h_S_)

theorem bottom_bits : Idealize.ShloMosaic.Ideal.ofBits .f32 0xFF800000#32 = (⊥ : EReal) := by
  simp [Idealize.ShloMosaic.Ideal.ofBits, Idealize.ShloMosaic.Ideal.ieee]

theorem mostH_at (l : FVec Ideal S1x4096x16 .f32) (p : Fin 4096) : mostH l (ix2 0 p) = top (flat (C := 16) l) p := by
  have h : Host.reduce (FloatOps.maximumf (F := Ideal) (φ := .f32)) l (constant S_ .f32 0xFF800000#32) reducesTo_S1x4096x16_S1x4096_d2 h_S_ (ix2 0 p)
      = top (flat (C := 16) l) p := by
    refine (Host.reduce_eq_fold (max : EReal → EReal → EReal) l (constant (F := Ideal) S_ .f32 0xFF800000#32) reducesTo_S1x4096x16_S1x4096_d2 h_S_ (ix2 0 p)).trans ?_
    refine (Shape.ReducesTo.fold_fiber_r3_a2 (n0 := 1) (n1 := 4096) (n2 := 16) reducesTo_S1x4096x16_S1x4096_d2 (ix2 0 p) max _ l).trans ?_
    exact congrArg (fun b => Finset.univ.fold max b fun m : Fin 16 => l (ix3 0 p m)) bottom_bits
  unfold mostH
  refine (congrArg₂ max bottom_bits h).trans ?_
  exact max_eq_right bot_le

/-- The exponentials of the fits below the greatest. -/
def expH (l : FVec Ideal S1x4096x16 .f32) : FVec Ideal S1x4096x16 .f32 :=
  Host.exp (subf l (broadcastInDim S1x4096x16 ![0, 1, 2] bcast_S1x4096x1_S1x4096x16_0_1_2
    (broadcastInDim S1x4096x1 ![0, 1] bcast_S1x4096_S1x4096x1_0_1 (mostH l))))

theorem expH_at (l : FVec Ideal S1x4096x16 .f32) (p : Fin 4096) (m : Fin 16) :
    expH l (ix3 0 p m) = Idealize.ShloMosaic.Ideal.exp (flat (C := 16) l p m - top (flat (C := 16) l) p) := by
  refine congrArg (fun v => Idealize.ShloMosaic.Ideal.exp (l (ix3 0 p m) - v)) (Eq.trans ?_ (mostH_at l p))
  exact congrArg (mostH l) (funext fun a => match a with | ⟨0, _⟩ => rfl | ⟨1, _⟩ => rfl)

/-- The softmax. -/
def softH (l : FVec Ideal S1x4096x16 .f32) : FVec Ideal S1x4096x16 .f32 :=
  Host.divf (expH l) (broadcastInDim S1x4096x16 ![0, 1, 2] bcast_S1x4096x1_S1x4096x16_0_1_2
    (broadcastInDim S1x4096x1 ![0, 1] bcast_S1x4096_S1x4096x1_0_1
      (Host.reduceAdd (expH l) (constant S_ .f32 0x00000000#32) reducesTo_S1x4096x16_S1x4096_d2 h_S_)))

theorem softH_eq (l : FVec Ideal S1x4096x16 .f32) : flat (C := 16) (softH l) = softmax (flat (C := 16) l) := by
  funext p m
  refine congrArg₂ Idealize.ShloMosaic.Ideal.div (expH_at l p m) ?_
  have h : Host.reduceAdd (F := Ideal) (expH l) (constant S_ .f32 0x00000000#32) reducesTo_S1x4096x16_S1x4096_d2 h_S_ (ix2 0 p)
      = ∑ k : Fin 16, expH l (ix3 0 p k) := by
    refine (ValueIdx.hostReduceAdd_apply _ _ _ _ _).trans ?_
    refine (congrArg (· + _) zero_bits).trans ((zero_add _).trans ?_)
    exact Shape.ReducesTo.sum_fiber_r3_a2 (n0 := 1) (n1 := 4096) (n2 := 16) reducesTo_S1x4096x16_S1x4096_d2 (ix2 0 p) (expH l)
  refine Eq.trans ?_ (h.trans (Finset.sum_congr rfl fun k _ => expH_at l p k))
  exact congrArg (Host.reduceAdd (F := Ideal) (expH l) (constant S_ .f32 0x00000000#32) reducesTo_S1x4096x16_S1x4096_d2 h_S_)
    (funext fun a => match a with | ⟨0, _⟩ => rfl | ⟨1, _⟩ => rfl)

/-- The result as it is stored: one picture for each agent. -/
def storeH (r : FVec Ideal S1x4096x16 .f32) : FVec Ideal S1x16x64x64 .f32 :=
  transpose S1x16x64x64 [0, 3, 1, 2] (shapeCast S1x64x64x16 r shapeCasts_S1x4096x16_S1x64x64x16) transposes_S1x64x64x16_S1x16x64x64_0_3_1_2

theorem storeH_eq (r : FVec Ideal S1x4096x16 .f32) : storeH r = stored (flat (C := 16) r) := by
  funext i
  have hy : (i 2).val < 64 := (i 2).isLt
  have hx : (i 3).val < 64 := (i 3).isLt
  refine (transpose_apply _ _ _ i (ix4 0 (i 2) (i 3) (i 1)) fun a => match a with
    | ⟨0, _⟩ => ?_ | ⟨1, _⟩ => rfl | ⟨2, _⟩ => rfl | ⟨3, _⟩ => rfl).trans ?_
  · exact congrArg Fin.val (Subsingleton.elim (α := Fin 1) _ _)
  refine shapeCast_apply r shapeCasts_S1x4096x16_S1x64x64x16 (ix4 0 (i 2) (i 3) (i 1))
    (ix3 0 ⟨(i 2).val * 64 + (i 3).val, by omega⟩ (i 1)) ?_
  refine (Shape.rowMajor_val_three _).trans (Eq.trans ?_ (Shape.rowMajor_val_four _).symm)
  show (0 * 4096 + ((i 2).val * 64 + (i 3).val)) * 16 + (i 1).val = ((0 * 64 + (i 2).val) * 64 + (i 3).val) * 16 + (i 1).val
  omega

/-- The operations after the loop. -/
theorem tail_eq (V : Valuation τ sig (Elt Ideal)) : out_main_v394 V
    = stored (softmax (logits (flat (C := 128) (V (Proc.devRef .tc main_v379_4))))) := by
  have h : out_main_v394 V = storeH (softH (fitH (V (Proc.devRef .tc main_v379_4)))) := rfl
  rw [h, storeH_eq, softH_eq]
  exact congrArg (fun L => stored (softmax L)) (funext fun p => funext fun m => fitH_at _ p m)

end Cert.RV
-- ==== Proof.RefRun.lean ====
/- The reference run on the grid's edges: its result is the network of its arguments. -/
module

public import proofs.«01_k».proof.Proof.RefLoop
public import proofs.«01_k».proof.Proof.RefTail

@[expose] public section

set_option maxRecDepth 16384

noncomputable section

namespace Cert.RV

open Idealize.ShloMosaic Idealize.ShloMosaic.StableHlo Cert.ReferenceIdeal Cert.ReferenceIdeal.Gen Cert.ReferenceIdeal.Facts Cert.ReferenceIdeal.Value Cert.Scene

variable (V : Vals)

/-- The network of the arguments' contents. -/
def netV : Img 16 := net (V (Proc.devRef .tc main_arg0)) (V (Proc.devRef .tc main_arg1)) (V (Proc.devRef .tc main_arg2)) (V (Proc.devRef .tc main_arg3))
  (V (Proc.devRef .tc main_arg4)) (V (Proc.devRef .tc main_arg5)) (V (Proc.devRef .tc main_arg6)) (V (Proc.devRef .tc main_arg7))
  (V (Proc.devRef .tc main_arg8)) (V (Proc.devRef .tc main_arg9)) (V (Proc.devRef .tc main_arg10)) (V (Proc.devRef .tc main_arg11))
  (V (Proc.devRef .tc main_arg12))

/-- Entry, loop and the operations after it, together. -/
theorem result_eq (h : EdgeList (fun e => V (Proc.devRef .tc main_arg13) (ix1 e)) (fun e => V (Proc.devRef .tc main_arg14) (ix1 e))) :
    out_main_v394 (STEP^[32] (vals V 41)) = stored (netV V) := by
  have r := (rounds (vals V 41) (qH V) (kH V) _ _ h (entry_wts V) (entry_col V) (entry_row V) 32).2.2.2
  rw [tail_eq, r, entry_state]
  unfold qH kH
  rw [queryH_eq, keyH_eq]
  unfold featH
  rw [headH_eq]
  rfl

end Cert.RV
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_grid_edges
public import proofs.«01_k».proof.Proof.KernelRun
public import proofs.«01_k».proof.Proof.RefRun
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments unchanged and declares no semaphore: its generated run, read at the arguments. -/
theorem frame_ri : Cert.quiescent_ReferenceIdeal := fun m g _ =>
  (θ_run _ _ _).mono (fun r h => ⟨fun c => (h c).2, sem_eq_zero_of_no_sems rfl r.2⟩) (Cert.ReferenceIdeal.Value.run m g)

/-- The reference's frame where the edge list is the grid's. -/
theorem frame_ri_edges : Cert.quiescent_ReferenceIdeal_pre_grid_edges := fun m g _ => frame_ri m g trivial

/-- On the grid's edges, and from the same arguments, the kernel and the reference both end with the network's masks. -/
theorem equal : Cert.algebraic_KernelIdeal_ReferenceIdeal_pre_grid_edges := by
  intro m g m' g' hpre harg
  refine ⟨fun c => Cert.Scene.stored (Cert.KV.netOf m c), ?_, ?_⟩
  · exact (θ_run _ _ _).mono (fun r h c => ⟨h.1 c, h.2 c⟩)
      (θ_run_and (Cert.KV.value_run m g) (Cert.KernelIdeal.Gen.unchanged m g))
  · refine (θ_run _ _ _).mono (fun r h c => ⟨(h c).1.trans ?_, (h c).2⟩) (Cert.ReferenceIdeal.Value.run m' g')
    obtain ⟨a0, a1, a2, a3, a4, a5, a6, a7, a8, a9, a10, a11, a12, a13, a14⟩ := harg c
    have edges := Cert.Scene.edgeList _ _ _ _ _ _ _ _ _ _ _ _ _ _ _ (hpre c)
    rw [← a13, ← a14] at edges
    rw [Cert.RV.entry_eq]
    refine (Cert.RV.result_eq (fun b => m' (c, b)) edges).trans (congrArg Cert.Scene.stored ?_)
    show Cert.Scene.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = Cert.KV.netOf m c
    rw [a0, a1, a2, a3, a4, a5, a6, a7, a8, a9, a10, a11, a12]
    rfl

theorem claim : Cert.Claim := ⟨Cert.Kernel.Gen.facts, Cert.KernelIdeal.Gen.facts, Cert.ReferenceIdeal.Gen.facts, Cert.Pre_grid_edges.Gen.facts,
  fun m g _ => Cert.Kernel.Gen.frame m g, fun m g _ => Cert.KernelIdeal.Gen.frame m g, fun m g _ => Cert.KernelIdeal.Gen.frame m g,
  frame_ri, frame_ri_edges, trivial, equal⟩

end Cert.Proof

end
